-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S512x256 .bf16) (main_arg1 : FVec F S256x64 .bf16) (main_arg2 : IVec S512x2 32) (main_arg3 : FVec F S4x256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .bf16 := Host.absf main_arg1
  let main_cst_0 : FVec F S_ .bf16 := constant S_ .bf16 0x7F80#16
  let main_v5 : FVec F S256x64 .bf16 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 64#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Pre_finite_and_routed_ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S512x256 .bf16) (main_arg1 : FVec F S256x64 .bf16) (main_arg2 : IVec S512x2 32) (main_arg3 : FVec F S64x256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .bf16 := Host.absf main_arg1
  let main_cst_0 : FVec F S_ .bf16 := constant S_ .bf16 0x7F80#16
  let main_v5 : FVec F S256x64 .bf16 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 64#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Kernel.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S512x512 : Shape := ⟨2, ![512, 512]⟩
abbrev S32x512 : Shape := ⟨2, ![32, 512]⟩
abbrev S16x32x512 : Shape := ⟨3, ![16, 32, 512]⟩
abbrev S16 : Shape := ⟨1, ![16]⟩
abbrev S_ : Shape := ⟨0, ![]⟩
abbrev S512x64 : Shape := ⟨2, ![512, 64]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S1 : Shape := ⟨1, ![1]⟩
abbrev S1x32x512 : Shape := ⟨3, ![1, 32, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S4x256x512, .bf16⟩
  | .hbm, ⟨4, _⟩ => ⟨S512x512, .f32⟩
  | .local _ .vmem, ⟨0, _⟩ => ⟨S512x256, .bf16⟩
  | .local _ .vmem, ⟨1, _⟩ => ⟨S256x64, .bf16⟩
  | .local _ .vmem, ⟨2, _⟩ => ⟨S512x2, .i32⟩
  | .local _ .vmem, ⟨3, _⟩ => ⟨S4x256x512, .bf16⟩
  | .local _ .vmem, ⟨4, _⟩ => ⟨S512x512, .f32⟩
  | .local _ .vmem, ⟨5, _⟩ => ⟨S512x512, .bf16⟩
  | .local _ .vmem, ⟨6, _⟩ => ⟨S32x512, .bf16⟩
  | .local _ .vmem, ⟨7, _⟩ => ⟨S16x32x512, .bf16⟩
  | .local _ .vmem, ⟨8, _⟩ => ⟨S16x32x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_181 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v316 : BitVec 32 := Scalar.addi v2 c1_i32_181
  let c16_i32_182 : BitVec 32 := 16#32
  let c0_i32_183 : BitVec 32 := 0#32
  let v317 : BitVec 1 := Scalar.cmpi .eq c16_i32_182 c0_i32_183
  let c1_i32_184 : BitVec 32 := 1#32
  let v318 : BitVec 32 := Scalar.select v317 c1_i32_184 c16_i32_182
  let v319 : BitVec 32 := Scalar.remsi v316 v318
  let c0_i32_186 : BitVec 32 := 0#32
  let v321 : BitVec 1 := Scalar.cmpi .slt v319 c0_i32_186
  let c0_i32_187 : BitVec 32 := 0#32
  let v322 : BitVec 1 := Scalar.cmpi .slt v318 c0_i32_187
  let v323 : BitVec 1 := Scalar.xori v321 v322
  let c0_i32_185 : BitVec 32 := 0#32
  let v320 : BitVec 1 := Scalar.cmpi .ne v319 c0_i32_185
  let v324 : BitVec 1 := Scalar.andi v323 v320
  let v325 : BitVec 32 := Scalar.addi v319 v318
  let v326 : BitVec 32 := Scalar.select v324 v325 v319
  let c32_i32 : BitVec 32 := 32#32
  let v327 : BitVec 32 := Scalar.muli v326 c32_i32
  let c0_i32_195 : BitVec 32 := 0#32
  ![v327.toNat, 0]
def k0_dev16 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_181 : BitVec 32 := 1#32
  let v316 : BitVec 32 := Scalar.addi v2 c1_i32_181
  let c16_i32_182 : BitVec 32 := 16#32
  let c0_i32_183 : BitVec 32 := 0#32
  let v317 : BitVec 1 := Scalar.cmpi .eq c16_i32_182 c0_i32_183
  let c1_i32_184 : BitVec 32 := 1#32
  let v318 : BitVec 32 := Scalar.select v317 c1_i32_184 c16_i32_182
  let v319 : BitVec 32 := Scalar.remsi v316 v318
  let c0_i32_186 : BitVec 32 := 0#32
  let v321 : BitVec 1 := Scalar.cmpi .slt v319 c0_i32_186
  let c0_i32_187 : BitVec 32 := 0#32
  let v322 : BitVec 1 := Scalar.cmpi .slt v318 c0_i32_187
  let v323 : BitVec 1 := Scalar.xori v321 v322
  let c0_i32_185 : BitVec 32 := 0#32
  let v320 : BitVec 1 := Scalar.cmpi .ne v319 c0_i32_185
  let v324 : BitVec 1 := Scalar.andi v323 v320
  let v325 : BitVec 32 := Scalar.addi v319 v318
  let v326 : BitVec 32 := Scalar.select v324 v325 v319
  let c1_i32_191 : BitVec 32 := 1#32
  let v328 : BitVec 32 := Scalar.muli v326 c1_i32_191
  let v329 : BitVec 32 := Scalar.addi c0_i32_192 v328
  v329.toNat
def k0_dev17 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_196 : BitVec 32 := 2#32
  let v337 : BitVec 32 := Scalar.addi v2 c2_i32_196
  let c16_i32_197 : BitVec 32 := 16#32
  let c0_i32_198 : BitVec 32 := 0#32
  let v338 : BitVec 1 := Scalar.cmpi .eq c16_i32_197 c0_i32_198
  let c1_i32_199 : BitVec 32 := 1#32
  let v339 : BitVec 32 := Scalar.select v338 c1_i32_199 c16_i32_197
  let v340 : BitVec 32 := Scalar.remsi v337 v339
  let c0_i32_201 : BitVec 32 := 0#32
  let v342 : BitVec 1 := Scalar.cmpi .slt v340 c0_i32_201
  let c0_i32_202 : BitVec 32 := 0#32
  let v343 : BitVec 1 := Scalar.cmpi .slt v339 c0_i32_202
  let v344 : BitVec 1 := Scalar.xori v342 v343
  let c0_i32_200 : BitVec 32 := 0#32
  let v341 : BitVec 1 := Scalar.cmpi .ne v340 c0_i32_200
  let v345 : BitVec 1 := Scalar.andi v344 v341
  let v346 : BitVec 32 := Scalar.addi v340 v339
  let v347 : BitVec 32 := Scalar.select v345 v346 v340
  let c1_i32_207 : BitVec 32 := 1#32
  let v349 : BitVec 32 := Scalar.muli v347 c1_i32_207
  let v350 : BitVec 32 := Scalar.addi c0_i32_208 v349
  v350.toNat
def k0_dev18 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_212 : BitVec 32 := 3#32
  let v358 : BitVec 32 := Scalar.addi v2 c3_i32_212
  let c16_i32_213 : BitVec 32 := 16#32
  let c0_i32_214 : BitVec 32 := 0#32
  let v359 : BitVec 1 := Scalar.cmpi .eq c16_i32_213 c0_i32_214
  let c1_i32_215 : BitVec 32 := 1#32
  let v360 : BitVec 32 := Scalar.select v359 c1_i32_215 c16_i32_213
  let v361 : BitVec 32 := Scalar.remsi v358 v360
  let c0_i32_217 : BitVec 32 := 0#32
  let v363 : BitVec 1 := Scalar.cmpi .slt v361 c0_i32_217
  let c0_i32_218 : BitVec 32 := 0#32
  let v364 : BitVec 1 := Scalar.cmpi .slt v360 c0_i32_218
  let v365 : BitVec 1 := Scalar.xori v363 v364
  let c0_i32_216 : BitVec 32 := 0#32
  let v362 : BitVec 1 := Scalar.cmpi .ne v361 c0_i32_216
  let v366 : BitVec 1 := Scalar.andi v365 v362
  let v367 : BitVec 32 := Scalar.addi v361 v360
  let v368 : BitVec 32 := Scalar.select v366 v367 v361
  let c1_i32_223 : BitVec 32 := 1#32
  let v370 : BitVec 32 := Scalar.muli v368 c1_i32_223
  let v371 : BitVec 32 := Scalar.addi c0_i32_224 v370
  v371.toNat
def k0_dev19 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_228 : BitVec 32 := 4#32
  let v379 : BitVec 32 := Scalar.addi v2 c4_i32_228
  let c16_i32_229 : BitVec 32 := 16#32
  let c0_i32_230 : BitVec 32 := 0#32
  let v380 : BitVec 1 := Scalar.cmpi .eq c16_i32_229 c0_i32_230
  let c1_i32_231 : BitVec 32 := 1#32
  let v381 : BitVec 32 := Scalar.select v380 c1_i32_231 c16_i32_229
  let v382 : BitVec 32 := Scalar.remsi v379 v381
  let c0_i32_233 : BitVec 32 := 0#32
  let v384 : BitVec 1 := Scalar.cmpi .slt v382 c0_i32_233
  let c0_i32_234 : BitVec 32 := 0#32
  let v385 : BitVec 1 := Scalar.cmpi .slt v381 c0_i32_234
  let v386 : BitVec 1 := Scalar.xori v384 v385
  let c0_i32_232 : BitVec 32 := 0#32
  let v383 : BitVec 1 := Scalar.cmpi .ne v382 c0_i32_232
  let v387 : BitVec 1 := Scalar.andi v386 v383
  let v388 : BitVec 32 := Scalar.addi v382 v381
  let v389 : BitVec 32 := Scalar.select v387 v388 v382
  let c1_i32_239 : BitVec 32 := 1#32
  let v391 : BitVec 32 := Scalar.muli v389 c1_i32_239
  let v392 : BitVec 32 := Scalar.addi c0_i32_240 v391
  v392.toNat
def k0_dev20 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_244 : BitVec 32 := 5#32
  let v400 : BitVec 32 := Scalar.addi v2 c5_i32_244
  let c16_i32_245 : BitVec 32 := 16#32
  let c0_i32_246 : BitVec 32 := 0#32
  let v401 : BitVec 1 := Scalar.cmpi .eq c16_i32_245 c0_i32_246
  let c1_i32_247 : BitVec 32 := 1#32
  let v402 : BitVec 32 := Scalar.select v401 c1_i32_247 c16_i32_245
  let v403 : BitVec 32 := Scalar.remsi v400 v402
  let c0_i32_249 : BitVec 32 := 0#32
  let v405 : BitVec 1 := Scalar.cmpi .slt v403 c0_i32_249
  let c0_i32_250 : BitVec 32 := 0#32
  let v406 : BitVec 1 := Scalar.cmpi .slt v402 c0_i32_250
  let v407 : BitVec 1 := Scalar.xori v405 v406
  let c0_i32_248 : BitVec 32 := 0#32
  let v404 : BitVec 1 := Scalar.cmpi .ne v403 c0_i32_248
  let v408 : BitVec 1 := Scalar.andi v407 v404
  let v409 : BitVec 32 := Scalar.addi v403 v402
  let v410 : BitVec 32 := Scalar.select v408 v409 v403
  let c1_i32_255 : BitVec 32 := 1#32
  let v412 : BitVec 32 := Scalar.muli v410 c1_i32_255
  let v413 : BitVec 32 := Scalar.addi c0_i32_256 v412
  v413.toNat
def k0_dev21 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_260 : BitVec 32 := 6#32
  let v421 : BitVec 32 := Scalar.addi v2 c6_i32_260
  let c16_i32_261 : BitVec 32 := 16#32
  let c0_i32_262 : BitVec 32 := 0#32
  let v422 : BitVec 1 := Scalar.cmpi .eq c16_i32_261 c0_i32_262
  let c1_i32_263 : BitVec 32 := 1#32
  let v423 : BitVec 32 := Scalar.select v422 c1_i32_263 c16_i32_261
  let v424 : BitVec 32 := Scalar.remsi v421 v423
  let c0_i32_265 : BitVec 32 := 0#32
  let v426 : BitVec 1 := Scalar.cmpi .slt v424 c0_i32_265
  let c0_i32_266 : BitVec 32 := 0#32
  let v427 : BitVec 1 := Scalar.cmpi .slt v423 c0_i32_266
  let v428 : BitVec 1 := Scalar.xori v426 v427
  let c0_i32_264 : BitVec 32 := 0#32
  let v425 : BitVec 1 := Scalar.cmpi .ne v424 c0_i32_264
  let v429 : BitVec 1 := Scalar.andi v428 v425
  let v430 : BitVec 32 := Scalar.addi v424 v423
  let v431 : BitVec 32 := Scalar.select v429 v430 v424
  let c1_i32_271 : BitVec 32 := 1#32
  let v433 : BitVec 32 := Scalar.muli v431 c1_i32_271
  let v434 : BitVec 32 := Scalar.addi c0_i32_272 v433
  v434.toNat
def k0_dev22 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_276 : BitVec 32 := 7#32
  let v442 : BitVec 32 := Scalar.addi v2 c7_i32_276
  let c16_i32_277 : BitVec 32 := 16#32
  let c0_i32_278 : BitVec 32 := 0#32
  let v443 : BitVec 1 := Scalar.cmpi .eq c16_i32_277 c0_i32_278
  let c1_i32_279 : BitVec 32 := 1#32
  let v444 : BitVec 32 := Scalar.select v443 c1_i32_279 c16_i32_277
  let v445 : BitVec 32 := Scalar.remsi v442 v444
  let c0_i32_281 : BitVec 32 := 0#32
  let v447 : BitVec 1 := Scalar.cmpi .slt v445 c0_i32_281
  let c0_i32_282 : BitVec 32 := 0#32
  let v448 : BitVec 1 := Scalar.cmpi .slt v444 c0_i32_282
  let v449 : BitVec 1 := Scalar.xori v447 v448
  let c0_i32_280 : BitVec 32 := 0#32
  let v446 : BitVec 1 := Scalar.cmpi .ne v445 c0_i32_280
  let v450 : BitVec 1 := Scalar.andi v449 v446
  let v451 : BitVec 32 := Scalar.addi v445 v444
  let v452 : BitVec 32 := Scalar.select v450 v451 v445
  let c1_i32_287 : BitVec 32 := 1#32
  let v454 : BitVec 32 := Scalar.muli v452 c1_i32_287
  let v455 : BitVec 32 := Scalar.addi c0_i32_288 v454
  v455.toNat
def k0_dev23 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_292 : BitVec 32 := 8#32
  let v463 : BitVec 32 := Scalar.addi v2 c8_i32_292
  let c16_i32_293 : BitVec 32 := 16#32
  let c0_i32_294 : BitVec 32 := 0#32
  let v464 : BitVec 1 := Scalar.cmpi .eq c16_i32_293 c0_i32_294
  let c1_i32_295 : BitVec 32 := 1#32
  let v465 : BitVec 32 := Scalar.select v464 c1_i32_295 c16_i32_293
  let v466 : BitVec 32 := Scalar.remsi v463 v465
  let c0_i32_297 : BitVec 32 := 0#32
  let v468 : BitVec 1 := Scalar.cmpi .slt v466 c0_i32_297
  let c0_i32_298 : BitVec 32 := 0#32
  let v469 : BitVec 1 := Scalar.cmpi .slt v465 c0_i32_298
  let v470 : BitVec 1 := Scalar.xori v468 v469
  let c0_i32_296 : BitVec 32 := 0#32
  let v467 : BitVec 1 := Scalar.cmpi .ne v466 c0_i32_296
  let v471 : BitVec 1 := Scalar.andi v470 v467
  let v472 : BitVec 32 := Scalar.addi v466 v465
  let v473 : BitVec 32 := Scalar.select v471 v472 v466
  let c1_i32_303 : BitVec 32 := 1#32
  let v475 : BitVec 32 := Scalar.muli v473 c1_i32_303
  let v476 : BitVec 32 := Scalar.addi c0_i32_304 v475
  v476.toNat
def k0_dev24 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_308 : BitVec 32 := 9#32
  let v484 : BitVec 32 := Scalar.addi v2 c9_i32_308
  let c16_i32_309 : BitVec 32 := 16#32
  let c0_i32_310 : BitVec 32 := 0#32
  let v485 : BitVec 1 := Scalar.cmpi .eq c16_i32_309 c0_i32_310
  let c1_i32_311 : BitVec 32 := 1#32
  let v486 : BitVec 32 := Scalar.select v485 c1_i32_311 c16_i32_309
  let v487 : BitVec 32 := Scalar.remsi v484 v486
  let c0_i32_313 : BitVec 32 := 0#32
  let v489 : BitVec 1 := Scalar.cmpi .slt v487 c0_i32_313
  let c0_i32_314 : BitVec 32 := 0#32
  let v490 : BitVec 1 := Scalar.cmpi .slt v486 c0_i32_314
  let v491 : BitVec 1 := Scalar.xori v489 v490
  let c0_i32_312 : BitVec 32 := 0#32
  let v488 : BitVec 1 := Scalar.cmpi .ne v487 c0_i32_312
  let v492 : BitVec 1 := Scalar.andi v491 v488
  let v493 : BitVec 32 := Scalar.addi v487 v486
  let v494 : BitVec 32 := Scalar.select v492 v493 v487
  let c1_i32_319 : BitVec 32 := 1#32
  let v496 : BitVec 32 := Scalar.muli v494 c1_i32_319
  let v497 : BitVec 32 := Scalar.addi c0_i32_320 v496
  v497.toNat
def k0_dev25 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_324 : BitVec 32 := 10#32
  let v505 : BitVec 32 := Scalar.addi v2 c10_i32_324
  let c16_i32_325 : BitVec 32 := 16#32
  let c0_i32_326 : BitVec 32 := 0#32
  let v506 : BitVec 1 := Scalar.cmpi .eq c16_i32_325 c0_i32_326
  let c1_i32_327 : BitVec 32 := 1#32
  let v507 : BitVec 32 := Scalar.select v506 c1_i32_327 c16_i32_325
  let v508 : BitVec 32 := Scalar.remsi v505 v507
  let c0_i32_329 : BitVec 32 := 0#32
  let v510 : BitVec 1 := Scalar.cmpi .slt v508 c0_i32_329
  let c0_i32_330 : BitVec 32 := 0#32
  let v511 : BitVec 1 := Scalar.cmpi .slt v507 c0_i32_330
  let v512 : BitVec 1 := Scalar.xori v510 v511
  let c0_i32_328 : BitVec 32 := 0#32
  let v509 : BitVec 1 := Scalar.cmpi .ne v508 c0_i32_328
  let v513 : BitVec 1 := Scalar.andi v512 v509
  let v514 : BitVec 32 := Scalar.addi v508 v507
  let v515 : BitVec 32 := Scalar.select v513 v514 v508
  let c1_i32_335 : BitVec 32 := 1#32
  let v517 : BitVec 32 := Scalar.muli v515 c1_i32_335
  let v518 : BitVec 32 := Scalar.addi c0_i32_336 v517
  v518.toNat
def k0_dev26 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_340 : BitVec 32 := 11#32
  let v526 : BitVec 32 := Scalar.addi v2 c11_i32_340
  let c16_i32_341 : BitVec 32 := 16#32
  let c0_i32_342 : BitVec 32 := 0#32
  let v527 : BitVec 1 := Scalar.cmpi .eq c16_i32_341 c0_i32_342
  let c1_i32_343 : BitVec 32 := 1#32
  let v528 : BitVec 32 := Scalar.select v527 c1_i32_343 c16_i32_341
  let v529 : BitVec 32 := Scalar.remsi v526 v528
  let c0_i32_345 : BitVec 32 := 0#32
  let v531 : BitVec 1 := Scalar.cmpi .slt v529 c0_i32_345
  let c0_i32_346 : BitVec 32 := 0#32
  let v532 : BitVec 1 := Scalar.cmpi .slt v528 c0_i32_346
  let v533 : BitVec 1 := Scalar.xori v531 v532
  let c0_i32_344 : BitVec 32 := 0#32
  let v530 : BitVec 1 := Scalar.cmpi .ne v529 c0_i32_344
  let v534 : BitVec 1 := Scalar.andi v533 v530
  let v535 : BitVec 32 := Scalar.addi v529 v528
  let v536 : BitVec 32 := Scalar.select v534 v535 v529
  let c1_i32_351 : BitVec 32 := 1#32
  let v538 : BitVec 32 := Scalar.muli v536 c1_i32_351
  let v539 : BitVec 32 := Scalar.addi c0_i32_352 v538
  v539.toNat
def k0_dev27 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_356 : BitVec 32 := 12#32
  let v547 : BitVec 32 := Scalar.addi v2 c12_i32_356
  let c16_i32_357 : BitVec 32 := 16#32
  let c0_i32_358 : BitVec 32 := 0#32
  let v548 : BitVec 1 := Scalar.cmpi .eq c16_i32_357 c0_i32_358
  let c1_i32_359 : BitVec 32 := 1#32
  let v549 : BitVec 32 := Scalar.select v548 c1_i32_359 c16_i32_357
  let v550 : BitVec 32 := Scalar.remsi v547 v549
  let c0_i32_361 : BitVec 32 := 0#32
  let v552 : BitVec 1 := Scalar.cmpi .slt v550 c0_i32_361
  let c0_i32_362 : BitVec 32 := 0#32
  let v553 : BitVec 1 := Scalar.cmpi .slt v549 c0_i32_362
  let v554 : BitVec 1 := Scalar.xori v552 v553
  let c0_i32_360 : BitVec 32 := 0#32
  let v551 : BitVec 1 := Scalar.cmpi .ne v550 c0_i32_360
  let v555 : BitVec 1 := Scalar.andi v554 v551
  let v556 : BitVec 32 := Scalar.addi v550 v549
  let v557 : BitVec 32 := Scalar.select v555 v556 v550
  let c1_i32_367 : BitVec 32 := 1#32
  let v559 : BitVec 32 := Scalar.muli v557 c1_i32_367
  let v560 : BitVec 32 := Scalar.addi c0_i32_368 v559
  v560.toNat
def k0_dev28 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_372 : BitVec 32 := 13#32
  let v568 : BitVec 32 := Scalar.addi v2 c13_i32_372
  let c16_i32_373 : BitVec 32 := 16#32
  let c0_i32_374 : BitVec 32 := 0#32
  let v569 : BitVec 1 := Scalar.cmpi .eq c16_i32_373 c0_i32_374
  let c1_i32_375 : BitVec 32 := 1#32
  let v570 : BitVec 32 := Scalar.select v569 c1_i32_375 c16_i32_373
  let v571 : BitVec 32 := Scalar.remsi v568 v570
  let c0_i32_377 : BitVec 32 := 0#32
  let v573 : BitVec 1 := Scalar.cmpi .slt v571 c0_i32_377
  let c0_i32_378 : BitVec 32 := 0#32
  let v574 : BitVec 1 := Scalar.cmpi .slt v570 c0_i32_378
  let v575 : BitVec 1 := Scalar.xori v573 v574
  let c0_i32_376 : BitVec 32 := 0#32
  let v572 : BitVec 1 := Scalar.cmpi .ne v571 c0_i32_376
  let v576 : BitVec 1 := Scalar.andi v575 v572
  let v577 : BitVec 32 := Scalar.addi v571 v570
  let v578 : BitVec 32 := Scalar.select v576 v577 v571
  let c1_i32_383 : BitVec 32 := 1#32
  let v580 : BitVec 32 := Scalar.muli v578 c1_i32_383
  let v581 : BitVec 32 := Scalar.addi c0_i32_384 v580
  v581.toNat
def k0_dev29 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_388 : BitVec 32 := 14#32
  let v589 : BitVec 32 := Scalar.addi v2 c14_i32_388
  let c16_i32_389 : BitVec 32 := 16#32
  let c0_i32_390 : BitVec 32 := 0#32
  let v590 : BitVec 1 := Scalar.cmpi .eq c16_i32_389 c0_i32_390
  let c1_i32_391 : BitVec 32 := 1#32
  let v591 : BitVec 32 := Scalar.select v590 c1_i32_391 c16_i32_389
  let v592 : BitVec 32 := Scalar.remsi v589 v591
  let c0_i32_393 : BitVec 32 := 0#32
  let v594 : BitVec 1 := Scalar.cmpi .slt v592 c0_i32_393
  let c0_i32_394 : BitVec 32 := 0#32
  let v595 : BitVec 1 := Scalar.cmpi .slt v591 c0_i32_394
  let v596 : BitVec 1 := Scalar.xori v594 v595
  let c0_i32_392 : BitVec 32 := 0#32
  let v593 : BitVec 1 := Scalar.cmpi .ne v592 c0_i32_392
  let v597 : BitVec 1 := Scalar.andi v596 v593
  let v598 : BitVec 32 := Scalar.addi v592 v591
  let v599 : BitVec 32 := Scalar.select v597 v598 v592
  let c1_i32_399 : BitVec 32 := 1#32
  let v601 : BitVec 32 := Scalar.muli v599 c1_i32_399
  let v602 : BitVec 32 := Scalar.addi c0_i32_400 v601
  v602.toNat
def k0_dev30 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_404 : BitVec 32 := 15#32
  let v610 : BitVec 32 := Scalar.addi v2 c15_i32_404
  let c16_i32_405 : BitVec 32 := 16#32
  let c0_i32_406 : BitVec 32 := 0#32
  let v611 : BitVec 1 := Scalar.cmpi .eq c16_i32_405 c0_i32_406
  let c1_i32_407 : BitVec 32 := 1#32
  let v612 : BitVec 32 := Scalar.select v611 c1_i32_407 c16_i32_405
  let v613 : BitVec 32 := Scalar.remsi v610 v612
  let c0_i32_409 : BitVec 32 := 0#32
  let v615 : BitVec 1 := Scalar.cmpi .slt v613 c0_i32_409
  let c0_i32_410 : BitVec 32 := 0#32
  let v616 : BitVec 1 := Scalar.cmpi .slt v612 c0_i32_410
  let v617 : BitVec 1 := Scalar.xori v615 v616
  let c0_i32_408 : BitVec 32 := 0#32
  let v614 : BitVec 1 := Scalar.cmpi .ne v613 c0_i32_408
  let v618 : BitVec 1 := Scalar.andi v617 v614
  let v619 : BitVec 32 := Scalar.addi v613 v612
  let v620 : BitVec 32 := Scalar.select v618 v619 v613
  let c1_i32_415 : BitVec 32 := 1#32
  let v622 : BitVec 32 := Scalar.muli v620 c1_i32_415
  let v623 : BitVec 32 := Scalar.addi c0_i32_416 v622
  v623.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_420 : BitVec 32 := 32#32
  let v631 : BitVec 32 := Scalar.muli v2 c32_i32_420
  let v632 : Index := Scalar.indexCast v631
  let c0_421 : Index := 0#32
  ![v632.toNat, 0]
def k0_dev31 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_577 : BitVec 32 := 1#32
  let v804 : BitVec 32 := Scalar.addi v2 c1_i32_577
  let c16_i32_578 : BitVec 32 := 16#32
  let c0_i32_579 : BitVec 32 := 0#32
  let v805 : BitVec 1 := Scalar.cmpi .eq c16_i32_578 c0_i32_579
  let c1_i32_580 : BitVec 32 := 1#32
  let v806 : BitVec 32 := Scalar.select v805 c1_i32_580 c16_i32_578
  let v807 : BitVec 32 := Scalar.remsi v804 v806
  let c0_i32_582 : BitVec 32 := 0#32
  let v809 : BitVec 1 := Scalar.cmpi .slt v807 c0_i32_582
  let c0_i32_583 : BitVec 32 := 0#32
  let v810 : BitVec 1 := Scalar.cmpi .slt v806 c0_i32_583
  let v811 : BitVec 1 := Scalar.xori v809 v810
  let c0_i32_581 : BitVec 32 := 0#32
  let v808 : BitVec 1 := Scalar.cmpi .ne v807 c0_i32_581
  let v812 : BitVec 1 := Scalar.andi v811 v808
  let v813 : BitVec 32 := Scalar.addi v807 v806
  let v814 : BitVec 32 := Scalar.select v812 v813 v807
  let c1_i32_587 : BitVec 32 := 1#32
  let v815 : BitVec 32 := Scalar.muli v814 c1_i32_587
  let v816 : BitVec 32 := Scalar.addi c0_i32_588 v815
  v816.toNat
def k0_dev32 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_591 : BitVec 32 := 2#32
  let v823 : BitVec 32 := Scalar.addi v2 c2_i32_591
  let c16_i32_592 : BitVec 32 := 16#32
  let c0_i32_593 : BitVec 32 := 0#32
  let v824 : BitVec 1 := Scalar.cmpi .eq c16_i32_592 c0_i32_593
  let c1_i32_594 : BitVec 32 := 1#32
  let v825 : BitVec 32 := Scalar.select v824 c1_i32_594 c16_i32_592
  let v826 : BitVec 32 := Scalar.remsi v823 v825
  let c0_i32_596 : BitVec 32 := 0#32
  let v828 : BitVec 1 := Scalar.cmpi .slt v826 c0_i32_596
  let c0_i32_597 : BitVec 32 := 0#32
  let v829 : BitVec 1 := Scalar.cmpi .slt v825 c0_i32_597
  let v830 : BitVec 1 := Scalar.xori v828 v829
  let c0_i32_595 : BitVec 32 := 0#32
  let v827 : BitVec 1 := Scalar.cmpi .ne v826 c0_i32_595
  let v831 : BitVec 1 := Scalar.andi v830 v827
  let v832 : BitVec 32 := Scalar.addi v826 v825
  let v833 : BitVec 32 := Scalar.select v831 v832 v826
  let c1_i32_601 : BitVec 32 := 1#32
  let v834 : BitVec 32 := Scalar.muli v833 c1_i32_601
  let v835 : BitVec 32 := Scalar.addi c0_i32_602 v834
  v835.toNat
def k0_dev33 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_605 : BitVec 32 := 3#32
  let v842 : BitVec 32 := Scalar.addi v2 c3_i32_605
  let c16_i32_606 : BitVec 32 := 16#32
  let c0_i32_607 : BitVec 32 := 0#32
  let v843 : BitVec 1 := Scalar.cmpi .eq c16_i32_606 c0_i32_607
  let c1_i32_608 : BitVec 32 := 1#32
  let v844 : BitVec 32 := Scalar.select v843 c1_i32_608 c16_i32_606
  let v845 : BitVec 32 := Scalar.remsi v842 v844
  let c0_i32_610 : BitVec 32 := 0#32
  let v847 : BitVec 1 := Scalar.cmpi .slt v845 c0_i32_610
  let c0_i32_611 : BitVec 32 := 0#32
  let v848 : BitVec 1 := Scalar.cmpi .slt v844 c0_i32_611
  let v849 : BitVec 1 := Scalar.xori v847 v848
  let c0_i32_609 : BitVec 32 := 0#32
  let v846 : BitVec 1 := Scalar.cmpi .ne v845 c0_i32_609
  let v850 : BitVec 1 := Scalar.andi v849 v846
  let v851 : BitVec 32 := Scalar.addi v845 v844
  let v852 : BitVec 32 := Scalar.select v850 v851 v845
  let c1_i32_615 : BitVec 32 := 1#32
  let v853 : BitVec 32 := Scalar.muli v852 c1_i32_615
  let v854 : BitVec 32 := Scalar.addi c0_i32_616 v853
  v854.toNat
def k0_dev34 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_619 : BitVec 32 := 4#32
  let v861 : BitVec 32 := Scalar.addi v2 c4_i32_619
  let c16_i32_620 : BitVec 32 := 16#32
  let c0_i32_621 : BitVec 32 := 0#32
  let v862 : BitVec 1 := Scalar.cmpi .eq c16_i32_620 c0_i32_621
  let c1_i32_622 : BitVec 32 := 1#32
  let v863 : BitVec 32 := Scalar.select v862 c1_i32_622 c16_i32_620
  let v864 : BitVec 32 := Scalar.remsi v861 v863
  let c0_i32_624 : BitVec 32 := 0#32
  let v866 : BitVec 1 := Scalar.cmpi .slt v864 c0_i32_624
  let c0_i32_625 : BitVec 32 := 0#32
  let v867 : BitVec 1 := Scalar.cmpi .slt v863 c0_i32_625
  let v868 : BitVec 1 := Scalar.xori v866 v867
  let c0_i32_623 : BitVec 32 := 0#32
  let v865 : BitVec 1 := Scalar.cmpi .ne v864 c0_i32_623
  let v869 : BitVec 1 := Scalar.andi v868 v865
  let v870 : BitVec 32 := Scalar.addi v864 v863
  let v871 : BitVec 32 := Scalar.select v869 v870 v864
  let c1_i32_629 : BitVec 32 := 1#32
  let v872 : BitVec 32 := Scalar.muli v871 c1_i32_629
  let v873 : BitVec 32 := Scalar.addi c0_i32_630 v872
  v873.toNat
def k0_dev35 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_633 : BitVec 32 := 5#32
  let v880 : BitVec 32 := Scalar.addi v2 c5_i32_633
  let c16_i32_634 : BitVec 32 := 16#32
  let c0_i32_635 : BitVec 32 := 0#32
  let v881 : BitVec 1 := Scalar.cmpi .eq c16_i32_634 c0_i32_635
  let c1_i32_636 : BitVec 32 := 1#32
  let v882 : BitVec 32 := Scalar.select v881 c1_i32_636 c16_i32_634
  let v883 : BitVec 32 := Scalar.remsi v880 v882
  let c0_i32_638 : BitVec 32 := 0#32
  let v885 : BitVec 1 := Scalar.cmpi .slt v883 c0_i32_638
  let c0_i32_639 : BitVec 32 := 0#32
  let v886 : BitVec 1 := Scalar.cmpi .slt v882 c0_i32_639
  let v887 : BitVec 1 := Scalar.xori v885 v886
  let c0_i32_637 : BitVec 32 := 0#32
  let v884 : BitVec 1 := Scalar.cmpi .ne v883 c0_i32_637
  let v888 : BitVec 1 := Scalar.andi v887 v884
  let v889 : BitVec 32 := Scalar.addi v883 v882
  let v890 : BitVec 32 := Scalar.select v888 v889 v883
  let c1_i32_643 : BitVec 32 := 1#32
  let v891 : BitVec 32 := Scalar.muli v890 c1_i32_643
  let v892 : BitVec 32 := Scalar.addi c0_i32_644 v891
  v892.toNat
def k0_dev36 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_647 : BitVec 32 := 6#32
  let v899 : BitVec 32 := Scalar.addi v2 c6_i32_647
  let c16_i32_648 : BitVec 32 := 16#32
  let c0_i32_649 : BitVec 32 := 0#32
  let v900 : BitVec 1 := Scalar.cmpi .eq c16_i32_648 c0_i32_649
  let c1_i32_650 : BitVec 32 := 1#32
  let v901 : BitVec 32 := Scalar.select v900 c1_i32_650 c16_i32_648
  let v902 : BitVec 32 := Scalar.remsi v899 v901
  let c0_i32_652 : BitVec 32 := 0#32
  let v904 : BitVec 1 := Scalar.cmpi .slt v902 c0_i32_652
  let c0_i32_653 : BitVec 32 := 0#32
  let v905 : BitVec 1 := Scalar.cmpi .slt v901 c0_i32_653
  let v906 : BitVec 1 := Scalar.xori v904 v905
  let c0_i32_651 : BitVec 32 := 0#32
  let v903 : BitVec 1 := Scalar.cmpi .ne v902 c0_i32_651
  let v907 : BitVec 1 := Scalar.andi v906 v903
  let v908 : BitVec 32 := Scalar.addi v902 v901
  let v909 : BitVec 32 := Scalar.select v907 v908 v902
  let c1_i32_657 : BitVec 32 := 1#32
  let v910 : BitVec 32 := Scalar.muli v909 c1_i32_657
  let v911 : BitVec 32 := Scalar.addi c0_i32_658 v910
  v911.toNat
def k0_dev37 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_661 : BitVec 32 := 7#32
  let v918 : BitVec 32 := Scalar.addi v2 c7_i32_661
  let c16_i32_662 : BitVec 32 := 16#32
  let c0_i32_663 : BitVec 32 := 0#32
  let v919 : BitVec 1 := Scalar.cmpi .eq c16_i32_662 c0_i32_663
  let c1_i32_664 : BitVec 32 := 1#32
  let v920 : BitVec 32 := Scalar.select v919 c1_i32_664 c16_i32_662
  let v921 : BitVec 32 := Scalar.remsi v918 v920
  let c0_i32_666 : BitVec 32 := 0#32
  let v923 : BitVec 1 := Scalar.cmpi .slt v921 c0_i32_666
  let c0_i32_667 : BitVec 32 := 0#32
  let v924 : BitVec 1 := Scalar.cmpi .slt v920 c0_i32_667
  let v925 : BitVec 1 := Scalar.xori v923 v924
  let c0_i32_665 : BitVec 32 := 0#32
  let v922 : BitVec 1 := Scalar.cmpi .ne v921 c0_i32_665
  let v926 : BitVec 1 := Scalar.andi v925 v922
  let v927 : BitVec 32 := Scalar.addi v921 v920
  let v928 : BitVec 32 := Scalar.select v926 v927 v921
  let c1_i32_671 : BitVec 32 := 1#32
  let v929 : BitVec 32 := Scalar.muli v928 c1_i32_671
  let v930 : BitVec 32 := Scalar.addi c0_i32_672 v929
  v930.toNat
def k0_dev38 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_675 : BitVec 32 := 8#32
  let v937 : BitVec 32 := Scalar.addi v2 c8_i32_675
  let c16_i32_676 : BitVec 32 := 16#32
  let c0_i32_677 : BitVec 32 := 0#32
  let v938 : BitVec 1 := Scalar.cmpi .eq c16_i32_676 c0_i32_677
  let c1_i32_678 : BitVec 32 := 1#32
  let v939 : BitVec 32 := Scalar.select v938 c1_i32_678 c16_i32_676
  let v940 : BitVec 32 := Scalar.remsi v937 v939
  let c0_i32_680 : BitVec 32 := 0#32
  let v942 : BitVec 1 := Scalar.cmpi .slt v940 c0_i32_680
  let c0_i32_681 : BitVec 32 := 0#32
  let v943 : BitVec 1 := Scalar.cmpi .slt v939 c0_i32_681
  let v944 : BitVec 1 := Scalar.xori v942 v943
  let c0_i32_679 : BitVec 32 := 0#32
  let v941 : BitVec 1 := Scalar.cmpi .ne v940 c0_i32_679
  let v945 : BitVec 1 := Scalar.andi v944 v941
  let v946 : BitVec 32 := Scalar.addi v940 v939
  let v947 : BitVec 32 := Scalar.select v945 v946 v940
  let c1_i32_685 : BitVec 32 := 1#32
  let v948 : BitVec 32 := Scalar.muli v947 c1_i32_685
  let v949 : BitVec 32 := Scalar.addi c0_i32_686 v948
  v949.toNat
def k0_dev39 (d0 : Dev nD) : Nat :=
  let c0_i32_700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_689 : BitVec 32 := 9#32
  let v956 : BitVec 32 := Scalar.addi v2 c9_i32_689
  let c16_i32_690 : BitVec 32 := 16#32
  let c0_i32_691 : BitVec 32 := 0#32
  let v957 : BitVec 1 := Scalar.cmpi .eq c16_i32_690 c0_i32_691
  let c1_i32_692 : BitVec 32 := 1#32
  let v958 : BitVec 32 := Scalar.select v957 c1_i32_692 c16_i32_690
  let v959 : BitVec 32 := Scalar.remsi v956 v958
  let c0_i32_694 : BitVec 32 := 0#32
  let v961 : BitVec 1 := Scalar.cmpi .slt v959 c0_i32_694
  let c0_i32_695 : BitVec 32 := 0#32
  let v962 : BitVec 1 := Scalar.cmpi .slt v958 c0_i32_695
  let v963 : BitVec 1 := Scalar.xori v961 v962
  let c0_i32_693 : BitVec 32 := 0#32
  let v960 : BitVec 1 := Scalar.cmpi .ne v959 c0_i32_693
  let v964 : BitVec 1 := Scalar.andi v963 v960
  let v965 : BitVec 32 := Scalar.addi v959 v958
  let v966 : BitVec 32 := Scalar.select v964 v965 v959
  let c1_i32_699 : BitVec 32 := 1#32
  let v967 : BitVec 32 := Scalar.muli v966 c1_i32_699
  let v968 : BitVec 32 := Scalar.addi c0_i32_700 v967
  v968.toNat
def k0_dev40 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_703 : BitVec 32 := 10#32
  let v975 : BitVec 32 := Scalar.addi v2 c10_i32_703
  let c16_i32_704 : BitVec 32 := 16#32
  let c0_i32_705 : BitVec 32 := 0#32
  let v976 : BitVec 1 := Scalar.cmpi .eq c16_i32_704 c0_i32_705
  let c1_i32_706 : BitVec 32 := 1#32
  let v977 : BitVec 32 := Scalar.select v976 c1_i32_706 c16_i32_704
  let v978 : BitVec 32 := Scalar.remsi v975 v977
  let c0_i32_708 : BitVec 32 := 0#32
  let v980 : BitVec 1 := Scalar.cmpi .slt v978 c0_i32_708
  let c0_i32_709 : BitVec 32 := 0#32
  let v981 : BitVec 1 := Scalar.cmpi .slt v977 c0_i32_709
  let v982 : BitVec 1 := Scalar.xori v980 v981
  let c0_i32_707 : BitVec 32 := 0#32
  let v979 : BitVec 1 := Scalar.cmpi .ne v978 c0_i32_707
  let v983 : BitVec 1 := Scalar.andi v982 v979
  let v984 : BitVec 32 := Scalar.addi v978 v977
  let v985 : BitVec 32 := Scalar.select v983 v984 v978
  let c1_i32_713 : BitVec 32 := 1#32
  let v986 : BitVec 32 := Scalar.muli v985 c1_i32_713
  let v987 : BitVec 32 := Scalar.addi c0_i32_714 v986
  v987.toNat
def k0_dev41 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_717 : BitVec 32 := 11#32
  let v994 : BitVec 32 := Scalar.addi v2 c11_i32_717
  let c16_i32_718 : BitVec 32 := 16#32
  let c0_i32_719 : BitVec 32 := 0#32
  let v995 : BitVec 1 := Scalar.cmpi .eq c16_i32_718 c0_i32_719
  let c1_i32_720 : BitVec 32 := 1#32
  let v996 : BitVec 32 := Scalar.select v995 c1_i32_720 c16_i32_718
  let v997 : BitVec 32 := Scalar.remsi v994 v996
  let c0_i32_722 : BitVec 32 := 0#32
  let v999 : BitVec 1 := Scalar.cmpi .slt v997 c0_i32_722
  let c0_i32_723 : BitVec 32 := 0#32
  let v1000 : BitVec 1 := Scalar.cmpi .slt v996 c0_i32_723
  let v1001 : BitVec 1 := Scalar.xori v999 v1000
  let c0_i32_721 : BitVec 32 := 0#32
  let v998 : BitVec 1 := Scalar.cmpi .ne v997 c0_i32_721
  let v1002 : BitVec 1 := Scalar.andi v1001 v998
  let v1003 : BitVec 32 := Scalar.addi v997 v996
  let v1004 : BitVec 32 := Scalar.select v1002 v1003 v997
  let c1_i32_727 : BitVec 32 := 1#32
  let v1005 : BitVec 32 := Scalar.muli v1004 c1_i32_727
  let v1006 : BitVec 32 := Scalar.addi c0_i32_728 v1005
  v1006.toNat
def k0_dev42 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_731 : BitVec 32 := 12#32
  let v1013 : BitVec 32 := Scalar.addi v2 c12_i32_731
  let c16_i32_732 : BitVec 32 := 16#32
  let c0_i32_733 : BitVec 32 := 0#32
  let v1014 : BitVec 1 := Scalar.cmpi .eq c16_i32_732 c0_i32_733
  let c1_i32_734 : BitVec 32 := 1#32
  let v1015 : BitVec 32 := Scalar.select v1014 c1_i32_734 c16_i32_732
  let v1016 : BitVec 32 := Scalar.remsi v1013 v1015
  let c0_i32_736 : BitVec 32 := 0#32
  let v1018 : BitVec 1 := Scalar.cmpi .slt v1016 c0_i32_736
  let c0_i32_737 : BitVec 32 := 0#32
  let v1019 : BitVec 1 := Scalar.cmpi .slt v1015 c0_i32_737
  let v1020 : BitVec 1 := Scalar.xori v1018 v1019
  let c0_i32_735 : BitVec 32 := 0#32
  let v1017 : BitVec 1 := Scalar.cmpi .ne v1016 c0_i32_735
  let v1021 : BitVec 1 := Scalar.andi v1020 v1017
  let v1022 : BitVec 32 := Scalar.addi v1016 v1015
  let v1023 : BitVec 32 := Scalar.select v1021 v1022 v1016
  let c1_i32_741 : BitVec 32 := 1#32
  let v1024 : BitVec 32 := Scalar.muli v1023 c1_i32_741
  let v1025 : BitVec 32 := Scalar.addi c0_i32_742 v1024
  v1025.toNat
def k0_dev43 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_745 : BitVec 32 := 13#32
  let v1032 : BitVec 32 := Scalar.addi v2 c13_i32_745
  let c16_i32_746 : BitVec 32 := 16#32
  let c0_i32_747 : BitVec 32 := 0#32
  let v1033 : BitVec 1 := Scalar.cmpi .eq c16_i32_746 c0_i32_747
  let c1_i32_748 : BitVec 32 := 1#32
  let v1034 : BitVec 32 := Scalar.select v1033 c1_i32_748 c16_i32_746
  let v1035 : BitVec 32 := Scalar.remsi v1032 v1034
  let c0_i32_750 : BitVec 32 := 0#32
  let v1037 : BitVec 1 := Scalar.cmpi .slt v1035 c0_i32_750
  let c0_i32_751 : BitVec 32 := 0#32
  let v1038 : BitVec 1 := Scalar.cmpi .slt v1034 c0_i32_751
  let v1039 : BitVec 1 := Scalar.xori v1037 v1038
  let c0_i32_749 : BitVec 32 := 0#32
  let v1036 : BitVec 1 := Scalar.cmpi .ne v1035 c0_i32_749
  let v1040 : BitVec 1 := Scalar.andi v1039 v1036
  let v1041 : BitVec 32 := Scalar.addi v1035 v1034
  let v1042 : BitVec 32 := Scalar.select v1040 v1041 v1035
  let c1_i32_755 : BitVec 32 := 1#32
  let v1043 : BitVec 32 := Scalar.muli v1042 c1_i32_755
  let v1044 : BitVec 32 := Scalar.addi c0_i32_756 v1043
  v1044.toNat
def k0_dev44 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_759 : BitVec 32 := 14#32
  let v1051 : BitVec 32 := Scalar.addi v2 c14_i32_759
  let c16_i32_760 : BitVec 32 := 16#32
  let c0_i32_761 : BitVec 32 := 0#32
  let v1052 : BitVec 1 := Scalar.cmpi .eq c16_i32_760 c0_i32_761
  let c1_i32_762 : BitVec 32 := 1#32
  let v1053 : BitVec 32 := Scalar.select v1052 c1_i32_762 c16_i32_760
  let v1054 : BitVec 32 := Scalar.remsi v1051 v1053
  let c0_i32_764 : BitVec 32 := 0#32
  let v1056 : BitVec 1 := Scalar.cmpi .slt v1054 c0_i32_764
  let c0_i32_765 : BitVec 32 := 0#32
  let v1057 : BitVec 1 := Scalar.cmpi .slt v1053 c0_i32_765
  let v1058 : BitVec 1 := Scalar.xori v1056 v1057
  let c0_i32_763 : BitVec 32 := 0#32
  let v1055 : BitVec 1 := Scalar.cmpi .ne v1054 c0_i32_763
  let v1059 : BitVec 1 := Scalar.andi v1058 v1055
  let v1060 : BitVec 32 := Scalar.addi v1054 v1053
  let v1061 : BitVec 32 := Scalar.select v1059 v1060 v1054
  let c1_i32_769 : BitVec 32 := 1#32
  let v1062 : BitVec 32 := Scalar.muli v1061 c1_i32_769
  let v1063 : BitVec 32 := Scalar.addi c0_i32_770 v1062
  v1063.toNat
def k0_dev45 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_773 : BitVec 32 := 15#32
  let v1070 : BitVec 32 := Scalar.addi v2 c15_i32_773
  let c16_i32_774 : BitVec 32 := 16#32
  let c0_i32_775 : BitVec 32 := 0#32
  let v1071 : BitVec 1 := Scalar.cmpi .eq c16_i32_774 c0_i32_775
  let c1_i32_776 : BitVec 32 := 1#32
  let v1072 : BitVec 32 := Scalar.select v1071 c1_i32_776 c16_i32_774
  let v1073 : BitVec 32 := Scalar.remsi v1070 v1072
  let c0_i32_778 : BitVec 32 := 0#32
  let v1075 : BitVec 1 := Scalar.cmpi .slt v1073 c0_i32_778
  let c0_i32_779 : BitVec 32 := 0#32
  let v1076 : BitVec 1 := Scalar.cmpi .slt v1072 c0_i32_779
  let v1077 : BitVec 1 := Scalar.xori v1075 v1076
  let c0_i32_777 : BitVec 32 := 0#32
  let v1074 : BitVec 1 := Scalar.cmpi .ne v1073 c0_i32_777
  let v1078 : BitVec 1 := Scalar.andi v1077 v1074
  let v1079 : BitVec 32 := Scalar.addi v1073 v1072
  let v1080 : BitVec 32 := Scalar.select v1078 v1079 v1073
  let c1_i32_783 : BitVec 32 := 1#32
  let v1081 : BitVec 32 := Scalar.muli v1080 c1_i32_783
  let v1082 : BitVec 32 := Scalar.addi c0_i32_784 v1081
  v1082.toNat
def k0_off3 (d0 : Dev nD) (c1_i32_796 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1098 : BitVec 32 := Scalar.subi v2 c1_i32_796
  let c16_i32_797 : BitVec 32 := 16#32
  let c0_i32_798 : BitVec 32 := 0#32
  let v1099 : BitVec 1 := Scalar.cmpi .eq c16_i32_797 c0_i32_798
  let c1_i32_799 : BitVec 32 := 1#32
  let v1100 : BitVec 32 := Scalar.select v1099 c1_i32_799 c16_i32_797
  let v1101 : BitVec 32 := Scalar.remsi v1098 v1100
  let c0_i32_801 : BitVec 32 := 0#32
  let v1103 : BitVec 1 := Scalar.cmpi .slt v1101 c0_i32_801
  let c0_i32_802 : BitVec 32 := 0#32
  let v1104 : BitVec 1 := Scalar.cmpi .slt v1100 c0_i32_802
  let v1105 : BitVec 1 := Scalar.xori v1103 v1104
  let c0_i32_800 : BitVec 32 := 0#32
  let v1102 : BitVec 1 := Scalar.cmpi .ne v1101 c0_i32_800
  let v1106 : BitVec 1 := Scalar.andi v1105 v1102
  let v1107 : BitVec 32 := Scalar.addi v1101 v1100
  let v1108 : BitVec 32 := Scalar.select v1106 v1107 v1101
  let c32_i32_806 : BitVec 32 := 32#32
  let v1112 : BitVec 32 := Scalar.muli v1108 c32_i32_806
  let v1113 : Index := Scalar.indexCast v1112
  let c0_807 : Index := 0#32
  ![v1113.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x64 : Shape := ⟨2, ![512, 64]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 90
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S64x256x512, .bf16⟩
  | .hbm, ⟨4, _⟩ => ⟨S512x256, .f32⟩
  | .hbm, ⟨5, _⟩ => ⟨S256x64, .f32⟩
  | .hbm, ⟨6, _⟩ => ⟨S64x256x512, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x64, .f32⟩
  | .hbm, ⟨18, _⟩ => ⟨S512x64, .f32⟩
  | .hbm, ⟨19, _⟩ => ⟨S512x1, .i32⟩
  | .hbm, ⟨20, _⟩ => ⟨S512, .i32⟩
  | .hbm, ⟨21, _⟩ => ⟨S512x1, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S512x1, .i32⟩
  | .hbm, ⟨40, _⟩ => ⟨S512x2, .i32⟩
  | .hbm, ⟨41, _⟩ => ⟨S512, .f32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S512x1, .i32⟩
  | .hbm, ⟨57, _⟩ => ⟨S512x1, .i32⟩
  | .hbm, ⟨58, _⟩ => ⟨S512x2, .i32⟩
  | .hbm, ⟨59, _⟩ => ⟨S512, .f32⟩
  | .hbm, ⟨60, _⟩ => ⟨S512, .f32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S512x256x512, .f32⟩
  | .hbm, ⟨70, _⟩ => ⟨S512x512, .f32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S512x256x512, .f32⟩
  | .hbm, ⟨80, _⟩ => ⟨S512x512, .f32⟩
  | .hbm, ⟨81, _⟩ => ⟨S512, .f32⟩
  | .hbm, ⟨82, _⟩ => ⟨S512x1, .f32⟩
  | .hbm, ⟨83, _⟩ => ⟨S512x512, .f32⟩
  | .hbm, ⟨84, _⟩ => ⟨S512x512, .f32⟩
  | .hbm, ⟨85, _⟩ => ⟨S512, .f32⟩
  | .hbm, ⟨86, _⟩ => ⟨S512x1, .f32⟩
  | .hbm, ⟨87, _⟩ => ⟨S512x512, .f32⟩
  | .hbm, ⟨88, _⟩ => ⟨S512x512, .f32⟩
  | .hbm, ⟨89, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Flat.lean ====
/- The kernel's body read as seven loops over the fifteen distances: fifteen barrier signals, the barrier
   wait, the local expert computation, fifteen sends of the reduce-scatter, fifteen waits with their additions,
   fifteen sends of the all-gather, fifteen waits with their stores, and thirty waits for the sends. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Moe

open Cert.KernelIdeal Cert.KernelIdeal.Gen
open Idealize.ShloMosaic Idealize.ShloMosaic.TcCoe Idealize.SL.Sem

variable {F : FTy → Type} [FloatOps F]

/-! ## The buffers and the semaphores -/

/-- The tokens, the router, the routing indices, this device's four experts, and the result: the staging buffers. -/
abbrev xM : Memref sig .tc .vmem S512x256 .bf16 := Memref.whole cc0_stg0_0
abbrev gM : Memref sig .tc .vmem S256x64 .bf16 := Memref.whole cc0_stg1_0
abbrev iM : Memref sig .tc .vmem S512x2 .i32 := Memref.whole cc0_stg2_0
abbrev eM : Memref sig .tc .vmem S4x256x512 .bf16 := Memref.whole cc0_stg3_0
abbrev oM : Memref sig .tc .vmem S512x512 .f32 := Memref.whole cc0_stg4_0
/-- This device's contribution to every token. -/
abbrev pM : Memref sig .tc .vmem S512x512 .bf16 := Memref.whole cc0_scratch0
/-- The summed rows of this device. -/
abbrev sM : Memref sig .tc .vmem S32x512 .bf16 := Memref.whole cc0_scratch1
/-- The arriving contributions, a slot to each distance. -/
abbrev bM : Memref sig .tc .vmem S16x32x512 .bf16 := Memref.whole cc0_scratch2
/-- The arriving sums, a slot to each distance. -/
abbrev aM : Memref sig .tc .vmem S16x32x512 .bf16 := Memref.whole cc0_scratch3

abbrev barS : Sem sig := (SemArray.scalar (sig.barrier 0 rfl) : Sems sig S_).sem

/-- Each semaphore of an array of sixteen lies inside it. -/
theorem at_inb (d : Fin 16) : ∀ a, (![d.val] : Fin 1 → Nat) a + S1.size a ≤ S16.size a := by revert d; decide
/-- Each slot of a buffer of sixteen lies inside it. -/
theorem slot_inb (d : Fin 16) : ∀ a, (![d.val, 0, 0] : Fin 3 → Nat) a + S1x32x512.size a ≤ S16x32x512.size a := by revert d; decide
/-- A slot starts and ends on whole words. -/
theorem slot_words (d : Fin 16) :
    (Rect.unit (s := S16x32x512) ![d.val, 0, 0] S1x32x512.size (slot_inb d)).WholeWords (EltTy.packing .bf16) := by
  revert d; decide

/-- Entry `d` of an array of sixteen semaphores. -/
abbrev nth (A : DmaSems sig S16) (d : Fin 16) : DmaSem sig :=
  ((A.slice (Rect.unit (s := S16) ![d.val] S1.size (at_inb d))).squeeze S_ squeezes_S1_S_).sem

/-- The rectangle of slot `d`. -/
abbrev slotR (d : Fin 16) : Rect S16x32x512 := Rect.unit (s := S16x32x512) ![d.val, 0, 0] S1x32x512.size (slot_inb d)
/-- Slot `d` of a buffer of sixteen. -/
abbrev slot (B : Memref sig .tc .vmem S16x32x512 .bf16) (d : Fin 16) : Memref sig .tc .vmem S32x512 .bf16 :=
  (B.slice (slotR d) (fun _ => rfl)).squeeze S32x512 squeezes_S1x32x512_S32x512

/-- A slot covers whole words. -/
theorem slot_exact {B : Memref sig .tc .vmem S16x32x512 .bf16} (h : B.IsWhole) (d : Fin 16) : (slot B d).view.WordExact :=
  (h.wordExact_slice rfl _ (slot_words d)).reshape _ _

/-- Thirty-two rows of a 512-row array from offset `o`. -/
abbrev rowsR (o : Fin 2 → Nat) (h : ∀ a, o a + S32x512.size a ≤ S512x512.size a) : Rect S512x512 :=
  Rect.unit (s := S512x512) o S32x512.size h

/-! ## The addresses the kernel computes, as tables over the distance -/

def sigDev (c : Dev nD) : Fin 16 → Dev nD :=
  ![0, ⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩]
def rsDev (c : Dev nD) : Fin 16 → Dev nD :=
  ![0, ⟨k0_dev16 c, k0_dev16_lt c⟩, ⟨k0_dev17 c, k0_dev17_lt c⟩, ⟨k0_dev18 c, k0_dev18_lt c⟩, ⟨k0_dev19 c, k0_dev19_lt c⟩,
    ⟨k0_dev20 c, k0_dev20_lt c⟩, ⟨k0_dev21 c, k0_dev21_lt c⟩, ⟨k0_dev22 c, k0_dev22_lt c⟩, ⟨k0_dev23 c, k0_dev23_lt c⟩,
    ⟨k0_dev24 c, k0_dev24_lt c⟩, ⟨k0_dev25 c, k0_dev25_lt c⟩, ⟨k0_dev26 c, k0_dev26_lt c⟩, ⟨k0_dev27 c, k0_dev27_lt c⟩,
    ⟨k0_dev28 c, k0_dev28_lt c⟩, ⟨k0_dev29 c, k0_dev29_lt c⟩, ⟨k0_dev30 c, k0_dev30_lt c⟩]
def agDev (c : Dev nD) : Fin 16 → Dev nD :=
  ![0, ⟨k0_dev31 c, k0_dev31_lt c⟩, ⟨k0_dev32 c, k0_dev32_lt c⟩, ⟨k0_dev33 c, k0_dev33_lt c⟩, ⟨k0_dev34 c, k0_dev34_lt c⟩,
    ⟨k0_dev35 c, k0_dev35_lt c⟩, ⟨k0_dev36 c, k0_dev36_lt c⟩, ⟨k0_dev37 c, k0_dev37_lt c⟩, ⟨k0_dev38 c, k0_dev38_lt c⟩,
    ⟨k0_dev39 c, k0_dev39_lt c⟩, ⟨k0_dev40 c, k0_dev40_lt c⟩, ⟨k0_dev41 c, k0_dev41_lt c⟩, ⟨k0_dev42 c, k0_dev42_lt c⟩,
    ⟨k0_dev43 c, k0_dev43_lt c⟩, ⟨k0_dev44 c, k0_dev44_lt c⟩, ⟨k0_dev45 c, k0_dev45_lt c⟩]

/-- The fifteen distances. -/
def dists : List (Fin 16) := [1, 2, 3, 4, 5, 6, 7, 8, 9, 10, 11, 12, 13, 14, 15]

/-- All the addresses of a run of the body: the devices signalled and sent to, the rows sent, the rows stored. -/
structure Addr where
  dS : Fin 16 → Dev nD
  dR : Fin 16 → Dev nD
  dA : Fin 16 → Dev nD
  oR : Fin 16 → Fin 2 → Nat
  oC : Fin 2 → Nat
  oA : Fin 16 → Fin 2 → Nat
  hR : ∀ d, ∀ a, oR d a + S32x512.size a ≤ S512x512.size a
  wR : ∀ d, (rowsR (oR d) (hR d)).WholeWords (EltTy.packing .bf16)
  hC : ∀ a, oC a + S32x512.size a ≤ S512x512.size a
  hA : ∀ d, ∀ a, oA d a + S32x512.size a ≤ S512x512.size a

abbrev PG (F : FTy → Type) : Type _ := Prog (TpuEff nD τ sig (Elt F) Λ₀ .tc) PUnit

variable (A : Addr)

/-- The rows of the contribution sent at distance `d`. -/
abbrev Addr.part (A : Addr) (d : Fin 16) : Memref sig .tc .vmem S32x512 .bf16 := pM.slice (rowsR (A.oR d) (A.hR d)) (fun _ => rfl)

/-- The rows sent cover whole words. -/
theorem Addr.part_exact (A : Addr) (d : Fin 16) : (A.part d).view.WordExact :=
  (Memref.isWhole_whole cc0_scratch0).wordExact_slice rfl _ (A.wR d)

/-! ## The loops -/

def signals : List (Fin 16) → PG F → PG F
  | [], k => k
  | d :: ds, k => .op (.semSignal (Dev.tc (A.dS d)) barS 1) fun _ => signals ds k

def rsSends : List (Fin 16) → PG F → PG F
  | [], k => k
  | d :: ds, k => .op (.enqueueDma (A.part d) (.remote (Dev.tc (A.dR d)) (slot bM d) (.dma (nth cc0_scratch4 d))) (.dma (nth cc0_scratch5 d))
      (A.part_exact d) (slot_exact (Memref.isWhole_whole _) d) ⟨⟨rfl, Or.inl rfl⟩, trivial⟩) fun _ => rsSends ds k

/-- A slot's 32 rows widened to f32. -/
def widen (w : Vec F S1x32x512 .bf16) : FVec F S32x512 .f32 := extf .f32 (shapeCast S32x512 w shapeCasts_S1x32x512_S32x512) bitsLt_bf16_f32

def rsRecvs : List (Fin 16) → FVec F S32x512 .f32 → (FVec F S32x512 .f32 → PG F) → PG F
  | [], v, k => k v
  | d :: ds, v, k =>
    .op (.waitDma2 (nth cc0_scratch5 d) (A.part d) (slot bM d) (A.part_exact d) (slot_exact (Memref.isWhole_whole _) d)) fun _ =>
    .op (.load bM (slotR d).toLoadRect (View.loadsAt_vmem h_S1x32x512)) fun w =>
    rsRecvs ds (addf v (widen w)) k

def agSends : List (Fin 16) → PG F → PG F
  | [], k => k
  | d :: ds, k => .op (.enqueueDma sM (.remote (Dev.tc (A.dA d)) (slot aM d) (.dma (nth cc0_scratch6 d))) (.dma (nth cc0_scratch7 d))
      (Memref.isWhole_whole cc0_scratch1).wordExact (slot_exact (Memref.isWhole_whole _) d) ⟨⟨rfl, Or.inl rfl⟩, trivial⟩) fun _ => agSends ds k

/-- Thirty-two rows of the result stored at offset `o`: the kernel also reads what was there. -/
def putRows (o : Fin 2 → Nat) (h : ∀ a, o a + S32x512.size a ≤ S512x512.size a) (v : FVec F S32x512 .f32) (k : PG F) : PG F :=
  .op (.load oM (rowsR o h).toLoadRect (View.loadsAt_vmem h_S32x512)) fun _ =>
  .op (.store oM (rowsR o h) v Finset.univ (View.stores_vmem_bits_univ h_S32x512 rfl) (.inl rfl)) fun _ => k

def agRecvs : List (Fin 16) → PG F → PG F
  | [], k => k
  | d :: ds, k =>
    .op (.waitDma2 (nth cc0_scratch7 d) sM (slot aM d) (Memref.isWhole_whole cc0_scratch1).wordExact (slot_exact (Memref.isWhole_whole _) d)) fun _ =>
    .op (.load aM (slotR d).toLoadRect (View.loadsAt_vmem h_S1x32x512)) fun w =>
    putRows (A.oA d) (A.hA d) (widen w) (agRecvs ds k)

def rsDone : List (Fin 16) → PG F → PG F
  | [], k => k
  | d :: ds, k => .op (.waitDma2 (nth cc0_scratch4 d) (slot bM d) (A.part d) (slot_exact (Memref.isWhole_whole _) d) (A.part_exact d)) fun _ => rsDone ds k

def agDone : List (Fin 16) → PG F → PG F
  | [], k => k
  | d :: ds, k => .op (.waitDma2 (nth cc0_scratch6 d) (slot aM d) sM (slot_exact (Memref.isWhole_whole _) d) (Memref.isWhole_whole cc0_scratch1).wordExact) fun _ => agDone ds k

/-! ## The whole body -/

abbrev xR : Rect S512x256 := Rect.unit (s := S512x256) ![0, 0] S512x256.size inb_S512x256_S512x256_0_0
abbrev gR : Rect S256x64 := Rect.unit (s := S256x64) ![0, 0] S256x64.size inb_S256x64_S256x64_0_0
abbrev iR : Rect S512x2 := Rect.unit (s := S512x2) ![0, 0] S512x2.size inb_S512x2_S512x2_0_0
abbrev pR : Rect S512x512 := Rect.unit (s := S512x512) ![0, 0] S512x512.size inb_S512x512_S512x512_0_0
abbrev sR : Rect S32x512 := Rect.unit (s := S32x512) ![0, 0] S32x512.size inb_S32x512_S32x512_0_0
/-- Each of the four experts lies inside the staged weights. -/
theorem exp_inb (j : Fin 4) : ∀ a, (![j.val, 0, 0] : Fin 3 → Nat) a + S1x256x512.size a ≤ S4x256x512.size a := by revert j; decide
abbrev eR (j : Fin 4) : Rect S4x256x512 := Rect.unit (s := S4x256x512) ![j.val, 0, 0] S1x256x512.size (exp_inb j)

/-- The device's own index, as the kernel computes it. -/
abbrev myWord (c : Dev nD) : BitVec 32 := Scalar.remsi (Scalar.divsi (Dev.word c) 1#32) 16#32

/-- The contribution of the device whose index word is `v2`: from the tokens, the router, the indices and its four experts. -/
def contrib (v2 : BitVec 32) (x : Vec F S512x256 .bf16) (g : Vec F S256x64 .bf16) (i i' : Vec F S512x2 .i32)
    (w0 w1 w2 w3 : Vec F S1x256x512 .bf16) : FVec F S512x512 .bf16 :=
  k0_pay11 v2 (k0_pay1 x) (k0_pay3 i) (k0_pay4 i') (k0_pay8 x g i i') (k0_pay9 (k0_pay6 x g i') (k0_pay7 x g i i'))
    (k0_pay10 v2 (k0_pay1 x) (k0_pay3 i) (k0_pay4 i') (k0_pay6 x g i') (k0_pay7 x g i i') (k0_pay8 x g i i') w0 w1)
    (Scalar.muli v2 4#32) 2#32 w2 w3

/-- The expert computation: the eight loads and the store of the contribution. -/
def compute (c : Dev nD) (k : PG F) : PG F :=
  .op (.load xM xR.toLoadRect (View.loadsAt_vmem h_S512x256)) fun x =>
  .op (.load gM gR.toLoadRect (View.loadsAt_vmem h_S256x64)) fun g =>
  .op (.load iM iR.toLoadRect (View.loadsAt_vmem h_S512x2)) fun i =>
  .op (.load iM iR.toLoadRect (View.loadsAt_vmem h_S512x2)) fun i' =>
  .op (.load eM (eR 0).toLoadRect (View.loadsAt_vmem h_S1x256x512)) fun w0 =>
  .op (.load eM (eR 1).toLoadRect (View.loadsAt_vmem h_S1x256x512)) fun w1 =>
  .op (.load eM (eR 2).toLoadRect (View.loadsAt_vmem h_S1x256x512)) fun w2 =>
  .op (.load eM (eR 3).toLoadRect (View.loadsAt_vmem h_S1x256x512)) fun w3 =>
  .op (.load pM pR.toLoadRect (View.loadsAt_vmem h_S512x512)) fun _ =>
  .op (.store pM pR (contrib (myWord c) x g i i' w0 w1 w2 w3) Finset.univ
    (View.stores_vmem h_S512x512 ((Memref.isWhole_whole cc0_scratch0).storeExact_slice rfl _ packedbf16_S512x512_S512x512_0_0) (fun _ => rfl)) (.inl rfl)) fun _ => k

/-- The summed rows rounded to bf16 and stored for the all-gather. -/
def putSum (v : FVec F S32x512 .f32) (k : PG F) : PG F :=
  .op (.load sM sR.toLoadRect (View.loadsAt_vmem h_S32x512)) fun _ =>
  .op (.store sM sR (shapeCast S32x512 (truncf .bf16 v bitsLt_bf16_f32) shapeCasts_S32x512_S32x512) Finset.univ
    (View.stores_vmem h_S32x512 ((Memref.isWhole_whole cc0_scratch1).storeExact_slice rfl _ packedbf16_S32x512_S32x512_0_0) (fun _ => rfl)) (.inl rfl)) fun _ => k

/-- The body on device `c` at the addresses `A`. -/
def flat (c : Dev nD) : PG F :=
  signals A dists <|
  .op (.semWait barS 15) fun _ =>
  compute c <|
  rsSends A dists <|
  .op (.load pM (rowsR A.oC A.hC).toLoadRect (View.loadsAt_vmem h_S32x512)) fun (v : Vec F S32x512 .bf16) =>
  rsRecvs A dists (extf .f32 v bitsLt_bf16_f32) fun v =>
  putSum v <|
  agSends A dists <|
  putRows A.oC A.hC v <|
  agRecvs A dists <|
  rsDone A dists <|
  agDone dists <|
  .ret ⟨⟩

/-- The row index of the table of the fifteen distances, at distance `d`. -/
def pred (d : Fin 16) : Fin 15 := ![0, 0, 1, 2, 3, 4, 5, 6, 7, 8, 9, 10, 11, 12, 13, 14] d

/-- The addresses as the kernel computes them. -/
def printed (c : Dev nD) : Addr where
  dS := sigDev c
  dR := rsDev c
  dA := agDev c
  oR d := k0_off1 c (BitVec.ofNat 32 (1 + (pred d).val))
  oC := k0_off2 c
  oA d := k0_off3 c (BitVec.ofNat 32 (1 + (pred d).val))
  hR d := k0_off1_inb c (pred d)
  wR d := k0_off1_wordsbf16 c (pred d)
  hC := k0_off2_inb c
  hA d := k0_off3_inb c (pred d)

set_option maxRecDepth 65536 in
/-- The body of the kernel is its device read followed by the loops. -/
theorem body_eq :
    (cc0_body xM (Memref.isWhole_whole _) gM (Memref.isWhole_whole _) iM (Memref.isWhole_whole _) eM (Memref.isWhole_whole _)
      oM (Memref.isWhole_whole _) pM (Memref.isWhole_whole _) sM (Memref.isWhole_whole _) bM (Memref.isWhole_whole _)
      aM (Memref.isWhole_whole _) cc0_scratch4 cc0_scratch5 cc0_scratch6 cc0_scratch7 : PG F)
      = .op .deviceId fun c => flat (printed c) c := by
  rw [cc0_body_eq_skeleton]
  rfl

end Cert.Moe

end
-- ==== Proof.Schedule.lean ====
/- The protocol of the kernel: who pays which semaphore, what each payment hands over, what every device owes
   at launch, and the contents the buffers hold on the way. -/
module

public import proofs.«01_k».proof.Proof.Flat
public import Idealize.ShloMosaic.Lib.Pipeline.Launch
public import Idealize.ShloMosaic.Lib.Pipeline.Kit
public import Idealize.ShloMosaic.Lib.Pipeline.SiteBlocks
public import Idealize.ShloMosaic.Lib.Pipeline.TalkSites
public import Idealize.ShloMosaic.Lib.Tactic

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL tallyL_append tallyL_pos)

variable {F : FTy → Type} [FloatOps F]

/-! ## The sixteen devices, at distances -/

/-- The device `d` after `c`, and the device `d` before it. -/
def up (d : Fin 16) (c : Dev nD) : Dev nD := ⟨(c.val + d.val) % 16, Nat.mod_lt _ (by decide)⟩
def dn (d : Fin 16) (c : Dev nD) : Dev nD := ⟨(c.val + (16 - d.val)) % 16, Nat.mod_lt _ (by decide)⟩
/-- The distance back. -/
def back (d : Fin 16) : Fin 16 := ⟨(16 - d.val) % 16, Nat.mod_lt _ (by decide)⟩

/-- Going back and then forth by a distance returns. -/
theorem up_dn : ∀ (d : Fin 16) (c : Dev nD), up d (dn d c) = c := by decide +kernel
/-- Going forth and then back by a distance returns. -/
theorem dn_up : ∀ (d : Fin 16) (c : Dev nD), dn d (up d c) = c := by decide +kernel
/-- Going back by the distance back is going forth. -/
theorem dn_back : ∀ (d : Fin 16) (c : Dev nD), dn (back d) c = up d c := by decide +kernel
/-- The distance back of the distance back is the distance itself. -/
theorem back_back : ∀ d : Fin 16, back (back d) = d := by decide
/-- A distance that is not zero has a distance back that is not zero. -/
theorem back_ne : ∀ d : Fin 16, d ≠ 0 → back d ≠ 0 := by decide

/-- The distances are all but zero. -/
theorem mem_dists : ∀ {d : Fin 16}, d ∈ dists ↔ d ≠ 0 := by decide
/-- The distances are distinct. -/
theorem dists_nodup : dists.Nodup := by decide
/-- The distances are the successors of the first fifteen numbers. -/
theorem dists_succ : dists = (List.finRange 15).map Fin.succ := by decide

/-! ## The semaphores -/

/-- The four arrays of transfer semaphores: the reduce-scatter's sends and receives, then the all-gather's. -/
def arr : Fin 4 → DmaSems sig S16 := ![cc0_scratch4, cc0_scratch5, cc0_scratch6, cc0_scratch7]

/-- What a semaphore is for: the barrier, entry `d` of array `k`, or staging. -/
inductive Role where
  | bar
  | dma (k : Fin 4) (d : Fin 16)
  | other
deriving DecidableEq

def role : SemLoc sig → Role
  | .reg _ => .bar
  | .dma q => if 5 ≤ q.val then .dma (Fin.ofNat 4 ((q.val - 5) / 16)) (Fin.ofNat 16 ((q.val - 5) % 16)) else .other

/-- Semaphore `d` of array `k` has that role. -/
theorem role_nth : ∀ (k : Fin 4) (d : Fin 16), role (.dma (nth (arr k) d)) = .dma k d := by decide +kernel

abbrev barC (c : Dev nD) : GSem nD τ sig := ((c : Thread nD τ), .reg barS)
abbrev dmaC (k : Fin 4) (d : Fin 16) (c : Dev nD) : GSem nD τ sig := ((c : Thread nD τ), .dma (nth (arr k) d))

/-- The credit of one block of thirty-two rows. -/
abbrev N : ℕ := (sM : Memref sig .tc .vmem S32x512 .bf16).view.dmaCredit
/-- A block's credit is positive. -/
theorem N_pos : 0 < N := View.dmaCredit_pos _ (by decide)

/-! ## The resource algebra -/

abbrev UB : Type := URounds (GSem nD τ sig) (Fin 16)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The contents -/

/-- The staged inputs of device `c`. -/
def stgX (c : Dev nD) : (cc0_stg0_0 : Ref sig .tc).ty.Contents (Elt F) := (win0_0.blk (0 : Fin 1)).view.read (Elt F) (m ((c : Thread nD τ).loc main_arg0))
def stgG (c : Dev nD) : (cc0_stg1_0 : Ref sig .tc).ty.Contents (Elt F) := (win0_1.blk (0 : Fin 1)).view.read (Elt F) (m ((c : Thread nD τ).loc main_arg1))
def stgI (c : Dev nD) : (cc0_stg2_0 : Ref sig .tc).ty.Contents (Elt F) := (win0_2.blk (0 : Fin 1)).view.read (Elt F) (m ((c : Thread nD τ).loc main_arg2))
def stgE (c : Dev nD) : (cc0_stg3_0 : Ref sig .tc).ty.Contents (Elt F) := (win0_3.blk (0 : Fin 1)).view.read (Elt F) (m ((c : Thread nD τ).loc main_arg3))

/-- Expert `j` of a device's four. -/
def expert (f : (cc0_stg3_0 : Ref sig .tc).ty.Contents (Elt F)) (j : Fin 4) : Vec F S1x256x512 .bf16 := eM.view.readAt (Elt F) (eR j).toLoadRect f

/-- The contribution of device `c` to every token. -/
def part (c : Dev nD) : Vec F S512x512 .bf16 :=
  contrib (myWord c) (stgX m c) (stgG m c) (stgI m c) (stgI m c) (expert (stgE m c) 0) (expert (stgE m c) 1) (expert (stgE m c) 2) (expert (stgE m c) 3)

/-- Each block of rows lies inside the array. -/
theorem blk_inb (o : Dev nD) : ∀ a, (![32 * o.val, 0] : Fin 2 → Nat) a + S32x512.size a ≤ S512x512.size a := by revert o; decide

/-- Block `o` of the rows of the contribution buffer. -/
abbrev blkM (o : Dev nD) : Memref sig .tc .vmem S32x512 .bf16 := pM.slice (rowsR ![32 * o.val, 0] (blk_inb o)) (fun _ => rfl)

/-- Thirty-two rows of a contribution. -/
def chunk (P : Vec F S512x512 .bf16) (o : Dev nD) : Vec F S32x512 .bf16 := (blkM o).view.read (Elt F) P

/-- The sum over a list of distances of the blocks arriving at `c`, from `v`. -/
def sumFrom (c : Dev nD) : List (Fin 16) → FVec F S32x512 .f32 → FVec F S32x512 .f32
  | [], v => v
  | d :: ds, v => sumFrom c ds (addf v (extf .f32 (chunk (part m (dn d c)) c) bitsLt_bf16_f32))

/-- The summed rows of device `c`. -/
def total (c : Dev nD) : FVec F S32x512 .f32 := sumFrom m c dists (extf .f32 (chunk (part m c) c) bitsLt_bf16_f32)

/-- Those rows as the all-gather sends them. -/
def sent (c : Dev nD) : Vec F S32x512 .bf16 := shapeCast S32x512 (truncf .bf16 (total m c) bitsLt_bf16_f32) shapeCasts_S32x512_S32x512

/-! ## The resources handed over -/

/-- The share of the summed rows that the send at distance `d` reads. -/
def tok (d : Fin 16) : PosShare TreeShare := Transfers.shareTokN fullShare (d.val - 1)

/-- Some contents of a memref's elements. -/
def some' {sh : Shape} {e : EltTy} (c : Dev nD) (M : Memref sig .tc .vmem sh e) : sProp 𝕄 := iprop(∃ f, M.view.loc (c : Thread nD τ) ↦[M.view.set]{fullShare} f)

instance some'_storable {sh : Shape} {e : EltTy} (c : Dev nD) (M : Memref sig .tc .vmem sh e) : BI.Storable (upEmb : UEmb _ 𝕄) (some' (F := F) c M) := by
  unfold some'; infer_instance

/-- The summed rows held at a share. -/
def sPts (q : PosShare TreeShare) (c : Dev nD) : sProp 𝕄 :=
  sM.view.loc (c : Thread nD τ) ↦[sM.view.set]{q} (sent m c : Buf (Elt F) (sM.view.loc (c : Thread nD τ)))

instance sPts_storable (q : PosShare TreeShare) (c : Dev nD) : BI.Storable (upEmb : UEmb _ 𝕄) (sPts m q c) := by unfold sPts; infer_instance

/-- A payment of the barrier hands over the two slots that the owner will write on the payer's device. -/
def barPay (c : Dev nD) (e : Fin 16) : sProp 𝕄 := iprop(some' (F := F) (dn e c) (slot bM (back e)) ∗ some' (F := F) (dn e c) (slot aM (back e)))

def dmaPay (c : Dev nD) (k : Fin 4) (d : Fin 16) : sProp 𝕄 := match k with
  | 0 => some' (F := F) c (blkM (up d c))
  | 1 => owns (c : Thread nD τ) (slot bM d) fullShare (chunk (part m (dn d c)) c)
  | 2 => sPts m (tok d) c
  | 3 => owns (c : Thread nD τ) (slot aM d) fullShare (sent m (dn d c))

/-- The schedule: one round. A barrier has a duty of one unit at each of the fifteen distances, a transfer's
    semaphore the duty of its block. -/
def sched : Rounds.Schedule (GSem nD τ sig) (Fin 16) 𝕄 where
  duties g r := if r = 0 then (match role g.2 with | .bar => Finset.univ.erase 0 | .dma _ _ => {0} | .other => ∅) else ∅
  unitless _ := False
  amount g _ _ := match role g.2 with | .bar => 1 | _ => N
  payload g _ e := match role g.2 with | .bar => barPay g.1.1 e | .dma k d => dmaPay m g.1.1 k d | .other => iprop(emp)
  amount_pos g _ _ _ := by
    cases role g.2 with
    | bar => exact Nat.one_pos
    | dma k d => exact N_pos
    | other => exact N_pos

instance dmaPay_storable (c : Dev nD) (k : Fin 4) (d : Fin 16) : BI.Storable (upEmb : UEmb _ 𝕄) (dmaPay m c k d) := by
  unfold dmaPay
  match k with
  | 0 => infer_instance
  | 1 => infer_instance
  | 2 => infer_instance
  | 3 => infer_instance

instance sched_payload_storable (g : GSem nD τ sig) (r : ℕ) (d : Fin 16) : BI.Storable (upEmb : UEmb _ 𝕄) ((sched m).payload g r d) := by
  show BI.Storable upEmb (match role g.2 with | .bar => barPay g.1.1 d | .dma k d => dmaPay m g.1.1 k d | .other => iprop(emp))
  cases role g.2 with
  | bar => dsimp only; unfold barPay; infer_instance
  | dma k d => dsimp only; infer_instance
  | other => dsimp only; infer_instance

section Facts
variable (c : Dev nD) (k : Fin 4) (d : Fin 16)

/-- The barrier's duties in the first round are one per other device. -/
theorem duties_bar : (sched (F := F) m).duties (barC c) 0 = Finset.univ.erase 0 := rfl
/-- A copy's semaphore has one duty in the first round. -/
theorem duties_dma : (sched (F := F) m).duties (dmaC k d c) 0 = {0} := by
  show (if (0 : ℕ) = 0 then (match role (.dma (nth (arr k) d)) with | .bar => Finset.univ.erase (0 : Fin 16) | .dma _ _ => {0} | .other => ∅) else ∅) = _
  rw [role_nth]; rfl
/-- No semaphore has a duty after the first round. -/
theorem duties_later (g : GSem nD τ sig) : ∀ r, 1 ≤ r → (sched (F := F) m).duties g r = ∅ := fun r hr => if_neg (by omega)

/-- Each signal of the barrier counts one. -/
theorem amount_bar (e : Fin 16) : (sched (F := F) m).amount (barC c) 0 e = 1 := rfl
/-- Each copy's semaphore receives one block's credit. -/
theorem amount_dma (e : Fin 16) : (sched (F := F) m).amount (dmaC k d c) 0 e = N := by
  show (match role (.dma (nth (arr k) d)) with | .bar => 1 | _ => N) = N
  rw [role_nth]

/-- A signal of the barrier hands over the payload named here. -/
theorem payload_bar (e : Fin 16) : (sched (F := F) m).payload (barC c) 0 e = barPay c e := rfl
/-- A copy's completion hands over the payload named here. -/
theorem payload_dma (e : Fin 16) : (sched (F := F) m).payload (dmaC k d c) 0 e = dmaPay m c k d := by
  show (match role (.dma (nth (arr k) d)) with | .bar => barPay c e | .dma k d => dmaPay m c k d | .other => iprop(emp)) = _
  rw [role_nth]

/-- The barrier expects fifteen signals. -/
theorem expect_bar : (sched (F := F) m).expect (barC c) 0 = 15 := by
  unfold Schedule.expect Schedule.amountOf
  rw [duties_bar, Finset.sum_congr rfl fun e _ => amount_bar m c e]; decide
/-- A copy's semaphore expects one block's credit. -/
theorem expect_dma : (sched (F := F) m).expect (dmaC k d c) 0 = N := by
  unfold Schedule.expect Schedule.amountOf; rw [duties_dma, Finset.sum_singleton, amount_dma]

/-- The whole round of a barrier: the payments of the fifteen distances. -/
theorem rest_bar : bigSep ((sched (F := F) m).duties (barC c) 0 \ ∅) (fun e => (sched (F := F) m).payload (barC c) 0 e)
    = bigSepL dists fun e => barPay (F := F) c e := by
  rw [Finset.sdiff_empty, duties_bar, bigSep_eq_bigSepL_of_eq dists (by decide) dists_nodup]; rfl
/-- All that a copy's semaphore hands over is its one payload. -/
theorem rest_dma : bigSep ((sched (F := F) m).duties (dmaC k d c) 0 \ ∅) (fun e => (sched (F := F) m).payload (dmaC k d c) 0 e) = dmaPay m c k d := by
  rw [Finset.sdiff_empty, duties_dma, bigSep_singleton, payload_dma]

end Facts

/-! ## What a device owes -/

/-- The barrier units that device `c` owes over a list of distances, and the blocks of array `k`, at level `i`. -/
def barDue (c : Dev nD) (ds : List (Fin 16)) : List (TalkSites.Pay nD τ sig) := ds.map fun d => (barC (up d c), 1, 1)
def dmaDue (k : Fin 4) (i : ℕ) (c : Dev nD) (ds : List (Fin 16)) : List (TalkSites.Pay nD τ sig) := ds.map fun d => (dmaC k d (up d c), i, N)

/-- What is owed at launch, after the barrier's signals, and after the reduce-scatter's sends. -/
def owe3 (c : Dev nD) (ds : List (Fin 16)) : CellTallies nD τ sig ℕ := tallyL (dmaDue 3 3 c ds)
def owe2 (c : Dev nD) (ds : List (Fin 16)) : CellTallies nD τ sig ℕ := tallyL (dmaDue 1 2 c ds) + owe3 c dists
def owe1 (c : Dev nD) (ds : List (Fin 16)) : CellTallies nD τ sig ℕ := tallyL (barDue c ds) + owe2 c dists
def O₀ (c : Dev nD) : CellTallies nD τ sig ℕ := owe1 c dists

/-- The debts of the second exchange are that of the first distance and those of the rest. -/
theorem owe3_cons (c : Dev nD) (d : Fin 16) (ds : List (Fin 16)) : owe3 c (d :: ds) = owe3 c ds + tallyAt (dmaC 3 d (up d c)) 3 N := by
  unfold owe3 dmaDue; rw [List.map_cons, tallyL, add_comm]
/-- The debts from the first exchange on are that of the first distance and those of the rest. -/
theorem owe2_cons (c : Dev nD) (d : Fin 16) (ds : List (Fin 16)) : owe2 c (d :: ds) = owe2 c ds + tallyAt (dmaC 1 d (up d c)) 2 N := by
  unfold owe2 dmaDue; rw [List.map_cons, tallyL, add_comm (TalkSites.Pay.tally _), add_right_comm]
/-- The debts from the barrier on are that of the first distance and those of the rest. -/
theorem owe1_cons (c : Dev nD) (d : Fin 16) (ds : List (Fin 16)) : owe1 c (d :: ds) = owe1 c ds + tallyAt (barC (up d c)) 1 1 := by
  unfold owe1 barDue; rw [List.map_cons, tallyL, add_comm (TalkSites.Pay.tally _), add_right_comm]
/-- After the last send nothing is owed. -/
theorem owe3_nil (c : Dev nD) : owe3 c [] = 0 := rfl
/-- After the first exchange the second is owed. -/
theorem owe2_nil (c : Dev nD) : owe2 c [] = owe3 c dists := zero_add _
/-- After the barrier the first exchange is owed. -/
theorem owe1_nil (c : Dev nD) : owe1 c [] = owe2 c dists := zero_add _

abbrev L := SiteBlocks.L (nD := nD) (τ := τ) (sig := sig) 4
abbrev lv := SiteBlocks.lv (nD := nD) (τ := τ) (sig := sig)

/-- Everything in a list of payments lies at a level from `b` on. -/
def Over (b : ℕ) (O : CellTallies nD τ sig ℕ) : Prop := ∀ g (i : ℕ), 0 < O g i → i ∈ L g ∧ b ≤ i

/-- Owing nothing lies from any level on. -/
theorem Over.zero (b : ℕ) : Over b 0 := fun _ _ h => absurd h (Nat.lt_irrefl 0)
/-- Payments from a level on add up to payments from it on. -/
theorem Over.add {b : ℕ} {O O' : CellTallies nD τ sig ℕ} (h : Over b O) (h' : Over b O') : Over b (O + O') := fun g i hi => by
  rw [Pi.add_apply, Finsupp.add_apply] at hi
  rcases Nat.add_pos_iff_pos_or_pos.mp hi with hi | hi
  · exact h g i hi
  · exact h' g i hi
/-- Payments from a level on are from every lower level on. -/
theorem Over.mono {b b' : ℕ} {O : CellTallies nD τ sig ℕ} (h : Over b O) (hb : b' ≤ b) : Over b' O := fun g i hi => ⟨(h g i hi).1, le_trans hb (h g i hi).2⟩
/-- A list of payments, each from a level on, is from it on. -/
theorem Over.pays {b : ℕ} {l : List (TalkSites.Pay nD τ sig)} (h : ∀ x ∈ l, x.1.1.2 = .tc ∧ b ≤ x.2.1 ∧ x.2.1 < 4) : Over b (tallyL l) := fun g i hi => by
  obtain ⟨x, hx, rfl, rfl⟩ := tallyL_pos hi
  obtain ⟨h1, h2, h3⟩ := h x hx
  exact ⟨SiteBlocks.mem_L' h1 h3, h2⟩

/-- The second exchange's debts are at level 3. -/
theorem over3 (c : Dev nD) (ds : List (Fin 16)) : Over 3 (owe3 c ds) := Over.pays fun x hx => by
  obtain ⟨d, -, rfl⟩ := List.mem_map.mp hx; exact ⟨rfl, le_refl _, (by decide : (3 : ℕ) < 4)⟩
/-- The debts from the first exchange on are at level 2 or above. -/
theorem over2 (c : Dev nD) (ds : List (Fin 16)) : Over 2 (owe2 c ds) := Over.add (Over.pays fun x hx => by
  obtain ⟨d, -, rfl⟩ := List.mem_map.mp hx; exact ⟨rfl, le_refl _, (by decide : (2 : ℕ) < 4)⟩) ((over3 c dists).mono (by decide))
/-- All debts are at level 1 or above. -/
theorem over1 (c : Dev nD) (ds : List (Fin 16)) : Over 1 (owe1 c ds) := Over.add (Over.pays fun x hx => by
  obtain ⟨d, -, rfl⟩ := List.mem_map.mp hx; exact ⟨rfl, le_refl _, (by decide : (1 : ℕ) < 4)⟩) ((over2 c dists).mono (by decide))

/-- A wait below everything that is owed. -/
theorem mayWait {i b : ℕ} (hi : i < b) (hb : i < 4) (c : Dev nD) (sm : SemLoc sig) {O : CellTallies nD τ sig ℕ} (h : Over b O) :
    (levAts L lv : sProp 𝕄) ⊢ MayWait (c : Thread nD τ) sm i O :=
  SiteBlocks.mayWait_of hb c sm O fun g k hk => ⟨(h g k hk).1, lt_of_lt_of_le hi (h g k hk).2⟩

end Cert.Moe

end
-- ==== Proof.Steps.lean ====
/- The loops of the body, each run by induction over its list of distances: what a loop needs, what it leaves. -/
module

public import proofs.«01_k».proof.Proof.Schedule
public import Idealize.ShloMosaic.Lib.Pipeline.BigSepL

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The cells as the launch makes them -/

/-- The barrier's cell, and the cells of the four arrays at the fifteen distances. -/
abbrev Kind : Type := Option (Fin 4 × Fin 15)
abbrev osem (x : Fin 4 × Fin 15) : SemLoc sig := .dma (nth (arr x.1) x.2.succ)
abbrev csem : Kind → SemLoc sig
  | none => .reg barS
  | some x => osem x
abbrev kcell (ck : Dev nD × Kind) : GSem nD τ sig := ((ck.1 : Thread nD τ), csem ck.2)

/-- Every cell's invariant, at the names `K`, and that every cell has reached its round. -/
def records (K : Dev nD × Kind → ℕ) : sProp 𝕄 :=
  iprop((bigSep Finset.univ fun ck : Dev nD × Kind => cellInv ER (sched m) (K ck) (kcell ck))
    ∗ bigSep Finset.univ fun ck : Dev nD × Kind => reached ER (kcell ck) 0)

instance records_persistent (K : Dev nD × Kind → ℕ) : BI.Persistent (records m K) := by unfold records; infer_instance

/-- One cell's invariant, at some name, and that it has reached its round. -/
def known (g : GSem nD τ sig) : sProp 𝕄 := iprop(∃ κ : ℕ, cellInv ER (sched m) κ g ∗ reached ER g 0)

instance known_persistent (g : GSem nD τ sig) : BI.Persistent (known m g) := by unfold known; infer_instance

/-- The records know each semaphore's cell. -/
theorem records_at (K : Dev nD × Kind → ℕ) (ck : Dev nD × Kind) : records m K ⊢ known m (kcell ck) := by
  unfold records known
  iintro ⟨#HI, #HR⟩
  iexists (K ck)
  isplitr
  · iapply (show (bigSep Finset.univ fun ck : Dev nD × Kind => (cellInv ER (sched m) (K ck) (kcell ck) : sProp 𝕄)) ⊢ cellInv ER (sched m) (K ck) (kcell ck)
      from bigSep_elim (Finset.mem_univ ck)); iexact HI
  · iapply (show (bigSep Finset.univ fun ck : Dev nD × Kind => (reached ER (kcell ck) 0 : sProp 𝕄)) ⊢ reached ER (kcell ck) 0
      from bigSep_elim (Finset.mem_univ ck)); iexact HR

/-- The records know each barrier's cell. -/
theorem records_bar (K : Dev nD × Kind → ℕ) (c : Dev nD) : records m K ⊢ known m (barC c) := records_at m K (c, none)
/-- The records know each copy's cells. -/
theorem records_dma (K : Dev nD × Kind → ℕ) (k : Fin 4) {d : Fin 16} (hd : d ≠ 0) (c : Dev nD) : records m K ⊢ known m (dmaC k d c) := by
  obtain ⟨e, rfl⟩ := Fin.exists_succ_eq.mpr hd
  exact records_at m K (c, some (k, e))

/-! ## Running a program on a device -/

abbrev runs (c : Dev nD) (p : PG F) (Q : PUnit → sProp 𝕄) : sProp 𝕄 :=
  wp frame (wpE (defs₀ (F := F)) Variants.none (c : Thread nD τ) none) Set.univ p Q

/-- A device's debts, whatever it has waited on. -/
def ow (c : Dev nD) (O : CellTallies nD τ sig ℕ) : sProp 𝕄 := iprop(∃ W, owes (c : Thread nD τ) O W)

variable (K : Dev nD × Kind → ℕ) (c : Dev nD)

/-- The wait for a transfer's block, below everything that is owed. -/
theorem step_wait (Q : PUnit → sProp 𝕄) (k : Fin 4) {d : Fin 16} (hd : d ≠ 0) {i b : ℕ} (hi : i < b) (hi4 : i < 4) {O : CellTallies nD τ sig ℕ} (hO : Over b O)
    {S : DmaSems sig S16} (hS : S = arr k) {s s' : Shape} {e e' : EltTy} {src : Memref sig .tc .vmem s e} {dst : Memref sig .tc .vmem s' e'}
    {hsrc : src.view.WordExact} {hdst : dst.view.WordExact} (hN : dst.view.dmaCredit = N) (p : PUnit → PG F) :
    iprop(records m K ∗ levAts L lv ∗ cred (tallyAt (dmaC k d c) i N) ∗ ow c O ∗ atPos ER (dmaC k d c) 0 ∅ 0)
      ⊢ iprop((ow c O ∗ atPos ER (dmaC k d c) 1 ∅ 0 ∗ dmaPay m c k d -∗ runs c (p ⟨⟩) Q)
        -∗ runs c (.op (.waitDma2 (nth S d) src dst hsrc hdst) p) Q) := by
  subst hS
  have hw := fun R : PUnit → sProp 𝕄 => (wpE_waitDma2_eq (defs := defs₀ (F := F)) Variants.none (c : Thread nD τ) none Set.univ (sem := nth (arr k) d) (hsrc := hsrc) (hdst := hdst) R).trans
    (congrArg (fun n => waitSpec (c : Thread nD τ) Set.univ (.dma (nth (arr k) d)) n R) hN)
  unfold ow
  iintro ⟨#HK, #Hlev, Hc, ⟨%W, HO⟩, Hat⟩ Hk
  ihave Hi := (records_dma m K k hd c) $$ HK
  unfold known
  icases Hi with ⟨%κ, #HI, #HR⟩
  iapply (Rounds.wp_wait_rest_token Variants.none ER (sched m) (c : Thread nD τ) none (κ := κ) hw (Set.mem_univ _) i (O := O) (W := W) (R := 0) (m := 0) (T := ∅)
      (by rw [Nat.zero_add, expect_dma])) $$ [Hc HO Hat]
  · isplitr; · iexact HI
    isplitl [Hc]; · iexact Hc
    isplitl [HO]; · iexact HO
    isplitr; · iapply (mayWait hi hi4 c _ hO); iexact Hlev
    iexact Hat
  iintro ⟨HO, Hat, -, Hpay⟩
  ihave Hp := (Entails.of_eq (rest_dma m c k d)) $$ Hpay
  iapply Hk
  isplitl [HO]; · iexists _; iexact HO
  isplitl [Hat]; · iexact Hat
  iexact Hp

/-- Every block of thirty-two rows has the same credit. -/
theorem credit_b (d : Fin 16) : (slot bM d).view.dmaCredit = N := rfl
/-- A slot's credit is one block's. -/
theorem credit_a (d : Fin 16) : (slot aM d).view.dmaCredit = N := rfl
/-- A block of rows has one block's credit. -/
theorem credit_p (d : Dev nD) : (blkM d).view.dmaCredit = N := rfl

/-- A send of a block held at a share, to the device at the distance: its own cell of array `k` returns the source,
    the other device's of array `k'` receives the block. -/
theorem step_send (Q : PUnit → sProp 𝕄) (k k' : Fin 4) {d : Fin 16} (hd : d ≠ 0) (i : ℕ) {n : Dev nD} (hn : n = up d c)
    {S S' : DmaSems sig S16} (hS : S = arr k) (hS' : S' = arr k')
    {src M dst : Memref sig .tc .vmem S32x512 .bf16} (hM : src = M)
    {hsc : (dst : Memref sig (Dev.tc n : Thread nD τ).2.kind .vmem S32x512 .bf16).view.ref.isScScratch = false}
    {hsrc : src.view.WordExact} {hdst : dst.view.WordExact}
    {hsem : DmaTarget.Typed .vmem (.dma (nth S' d)) (.remote (Dev.tc n : Thread nD τ) dst (.dma (nth S d)) hsc)}
    {q : PosShare TreeShare} {fs : Buf (Elt F) (M.view.loc (c : Thread nD τ))} {O O' : CellTallies nD τ sig ℕ}
    (hN : dst.view.dmaCredit = N)
    (hO : O' = O + tallyAt (dmaC k' d (up d c)) i N)
    (hp : (M.view.loc (c : Thread nD τ) ↦[M.view.set]{q} fs : sProp 𝕄) ⊢ dmaPay m c k d)
    (hp' : (owns (up d c : Thread nD τ) dst fullShare (M.view.read (Elt F) fs) : sProp 𝕄) ⊢ dmaPay m (up d c) k' d)
    (p : PUnit → PG F) :
    iprop(records m K ∗ ow c O' ∗ dutyTok ER (dmaC k d c) 0 0 ∗ dutyTok ER (dmaC k' d (up d c)) 0 0
        ∗ some' (F := F) (up d c) dst ∗ (M.view.loc (c : Thread nD τ) ↦[M.view.set]{q} fs))
      ⊢ iprop((ow c O ∗ cred (tallyAt (dmaC k d c) 0 N) -∗ runs c (p ⟨⟩) Q)
        -∗ runs c (.op (.enqueueDma src (.remote (Dev.tc n) dst (.dma (nth S d)) hsc) (.dma (nth S' d)) hsrc hdst hsem) p) Q) := by
  subst hS; subst hS'; subst hn; subst hM; subst hO
  unfold ow some'
  iintro ⟨#HK, ⟨%W, HO⟩, Ht, Ht', ⟨%fd, Hd⟩, Hs⟩ Hk
  ihave Hi := (records_dma m K k hd c) $$ HK
  ihave Hi' := (records_dma m K k' hd (up d c)) $$ HK
  unfold known
  icases Hi with ⟨%κ, #HI, #HR⟩
  icases Hi' with ⟨%κ', #HI', #HR'⟩
  iapply (Rounds.wp_send_pointsTo Variants.none ER (sched m) (c : Thread nD τ) none (κ₁ := κ) (κ₂ := κ')
      (r₁ := 0) (r₂ := 0) (d₁ := 0) (d₂ := 0) (fd := fd) (fs := fs) (q := q)
      (by rw [duties_dma]; exact Finset.mem_singleton_self _) (by rw [duties_dma]; exact Finset.mem_singleton_self _)
      i 0 N (show dst.view.amount (.dma (nth (arr k') d)) = N from hN) (amount_dma m c k d 0) (amount_dma m (up d c) k' d 0) O rfl (W := W)
      (by rw [payload_dma]; exact hp)
      (by
        rw [payload_dma]; refine BI.Entails.trans ?_ hp'
        unfold owns
        show (_ : sProp 𝕄) ⊢ _
        iintro H; iexists (dst.view.write (Elt F) fd (src.view.read (Elt F) fs) Finset.univ); isplitr
        · ipureintro; exact View.read_write_univ _ _
        · iexact H)) $$ [HO Ht Ht' Hd Hs]
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [HO]; · iexists _; iexact HO
  iexact Hc

/-! ## The loops -/

/-- The addresses are the ones the protocol names. -/
structure Addr.Good (A : Addr) (c : Dev nD) : Prop where
  dS : ∀ d : Fin 16, d ≠ 0 → A.dS d = up d c
  dR : ∀ d : Fin 16, d ≠ 0 → A.dR d = up d c
  dA : ∀ d : Fin 16, d ≠ 0 → A.dA d = up d c
  oR : ∀ d : Fin 16, d ≠ 0 → A.oR d = ![32 * (up d c).val, 0]
  oC : A.oC = ![32 * c.val, 0]
  oA : ∀ d : Fin 16, d ≠ 0 → A.oA d = ![32 * (dn d c).val, 0]

/-- Rows at equal offsets are the same view. -/
theorem rows_eq {o o' : Fin 2 → Nat} (e : o = o') (h : ∀ a, o a + S32x512.size a ≤ S512x512.size a) (h' : ∀ a, o' a + S32x512.size a ≤ S512x512.size a) :
    (pM.slice (rowsR o h) (fun _ => rfl) : Memref sig .tc .vmem S32x512 .bf16) = pM.slice (rowsR o' h') (fun _ => rfl) := by subst e; rfl

variable {c} {A : Addr} (hA : A.Good c)
include hA

/-- The rows sent at distance `d` are the block of the device there. -/
theorem part_eq {d : Fin 16} (hd : d ≠ 0) : A.part d = blkM (up d c) := rows_eq (hA.oR d hd) _ _

/-- The fifteen signals: each pays its unit and hands over the two slots. -/
theorem run_signals (Q : PUnit → sProp 𝕄) (p : PG F) (ds : List (Fin 16)) (hds : ∀ d ∈ ds, d ≠ 0) :
    iprop(records m K ∗ ow c (owe1 c ds) ∗ bigSepL ds fun d => iprop(dutyTok ER (barC (up d c)) 0 d ∗ barPay (F := F) (up d c) d))
      ⊢ iprop((ow c (owe2 c dists) -∗ runs c p Q) -∗ runs c (signals A ds p) Q) := by
  induction ds with
  | nil =>
    rw [owe1_nil]
    iintro ⟨-, HO, -⟩ Hk
    iapply Hk; iexact HO
  | cons d ds ih =>
    have hd := hds d List.mem_cons_self
    rw [bigSepL_cons', owe1_cons]
    unfold signals
    rw [hA.dS d hd]
    iintro ⟨#HK, HO, ⟨⟨Ht, Hp⟩, Hrest⟩⟩ Hk
    unfold ow
    icases HO with ⟨%W, HO⟩
    ihave Hi := (records_bar m K (up d c)) $$ HK
    unfold known
    icases Hi with ⟨%κ, #HI, #HR⟩
    iapply (Rounds.wp_signal Variants.none ER (sched m) (c : Thread nD τ) none (dst := (up d c : Thread nD τ)) (κ := κ)
        (d := d) (by rw [duties_bar]; exact Finset.mem_erase.mpr ⟨hd, Finset.mem_univ _⟩) ((amount_bar m (up d c) d).trans (by decide)) 1 (owe1 c ds) rfl)
      $$ [HO Ht Hp]
    · isplitr; · iexact HI
      isplitl [HO]; · iexact HO
      isplitl [Ht]; · iexact Ht
      isplitl [Hp]; · rw [payload_bar]; iexact Hp
      iexact HR
    iintro HO
    ihave H := (ih (fun e he => hds e (List.mem_cons_of_mem _ he))) $$ [HO Hrest]
    · isplitr; · iexact HK
      isplitl [HO]; · unfold ow; iexists _; iexact HO
      iexact Hrest
    iapply H
    unfold ow; iexact Hk

/-- The fifteen sends of the reduce-scatter. -/
theorem run_rsSends (Q : PUnit → sProp 𝕄) (p : PG F) (ds : List (Fin 16)) (hds : ∀ d ∈ ds, d ≠ 0) :
    iprop(records m K ∗ ow c (owe2 c ds) ∗ bigSepL ds fun d => iprop(dutyTok ER (dmaC 0 d c) 0 0 ∗ dutyTok ER (dmaC 1 d (up d c)) 0 0
        ∗ some' (F := F) (up d c) (slot bM d)
        ∗ ((blkM (up d c)).view.loc (c : Thread nD τ) ↦[(blkM (up d c)).view.set]{fullShare} (part m c : Buf (Elt F) ((blkM (up d c)).view.loc (c : Thread nD τ))))))
      ⊢ iprop((ow c (owe3 c dists) ∗ (bigSepL ds fun d => cred (tallyAt (dmaC 0 d c) 0 N)) -∗ runs c p Q) -∗ runs c (rsSends A ds p) Q) := by
  induction ds with
  | nil =>
    rw [owe2_nil]
    iintro ⟨-, HO, -⟩ Hk
    iapply Hk
    isplitl [HO]; · iexact HO
    rw [bigSepL_nil]; iempintro
  | cons d ds ih =>
    have hd := hds d List.mem_cons_self
    rw [bigSepL_cons', bigSepL_cons']
    unfold rsSends
    iintro ⟨#HK, HO, ⟨Hd, Hrest⟩⟩ Hk
    iapply (step_send m K c Q 0 1 hd 2 (hA.dR d hd) (S := cc0_scratch4) (S' := cc0_scratch5) rfl rfl (part_eq hA hd) (fs := (part m c : Buf (Elt F) ((blkM (up d c)).view.loc (c : Thread nD τ)))) (q := fullShare) (O := owe2 c ds) (credit_b d) (owe2_cons c d ds)
      (by
        show _ ⊢ some' c (blkM (up d c))
        unfold some'; iintro H; iexists _; iexact H)
      (by
        show _ ⊢ owns _ _ _ (chunk (part m (dn d (up d c))) (up d c))
        rw [dn_up]; exact BI.Entails.refl _)
      fun _ => rsSends A ds p) $$ [HO Hd]
    · icases Hd with ⟨H1, H2, H3, H4⟩
      isplitr; · iexact HK
      isplitl [HO]; · iexact HO
      isplitl [H1]; · iexact H1
      isplitl [H2]; · iexact H2
      isplitl [H3]; · iexact H3
      iexact H4
    iintro ⟨HO, Hc⟩
    ihave H := (ih (fun e he => hds e (List.mem_cons_of_mem _ he))) $$ [HO Hrest]
    · isplitr; · iexact HK
      isplitl [HO]; · iexact HO
      iexact Hrest
    iapply H
    iintro ⟨HO, Hcs⟩
    iapply Hk
    isplitl [HO]; · iexact HO
    isplitl [Hc]; · iexact Hc
    iexact Hcs

/-- The fifteen sends of the all-gather, each reading its share of the summed rows. -/
theorem run_agSends (Q : PUnit → sProp 𝕄) (p : PG F) (ds : List (Fin 16)) (hds : ∀ d ∈ ds, d ≠ 0) :
    iprop(records m K ∗ ow c (owe3 c ds) ∗ bigSepL ds fun d => iprop(dutyTok ER (dmaC 2 d c) 0 0 ∗ dutyTok ER (dmaC 3 d (up d c)) 0 0
        ∗ some' (F := F) (up d c) (slot aM d) ∗ sPts m (tok d) c))
      ⊢ iprop((ow c 0 ∗ (bigSepL ds fun d => cred (tallyAt (dmaC 2 d c) 0 N)) -∗ runs c p Q) -∗ runs c (agSends A ds p) Q) := by
  induction ds with
  | nil =>
    rw [owe3_nil]
    iintro ⟨-, HO, -⟩ Hk
    iapply Hk
    isplitl [HO]; · iexact HO
    rw [bigSepL_nil]; iempintro
  | cons d ds ih =>
    have hd := hds d List.mem_cons_self
    rw [bigSepL_cons', bigSepL_cons']
    unfold agSends
    iintro ⟨#HK, HO, ⟨Hd, Hrest⟩⟩ Hk
    iapply (step_send m K c Q 2 3 hd 3 (hA.dA d hd) (S := cc0_scratch6) (S' := cc0_scratch7) rfl rfl (src := sM) (M := sM) rfl (fs := (sent m c : Buf (Elt F) (sM.view.loc (c : Thread nD τ)))) (q := tok d) (O := owe3 c ds) (credit_a d) (owe3_cons c d ds)
      (by show _ ⊢ sPts m (tok d) c; exact BI.Entails.refl _)
      (by
        show _ ⊢ owns _ _ _ (sent m (dn d (up d c)))
        rw [dn_up, show sM.view.read (Elt F) (sent m c) = sent m c from View.read_whole cc0_scratch1 _])
      fun _ => agSends A ds p) $$ [HO Hd]
    · icases Hd with ⟨H1, H2, H3, H4⟩
      isplitr; · iexact HK
      isplitl [HO]; · iexact HO
      isplitl [H1]; · iexact H1
      isplitl [H2]; · iexact H2
      isplitl [H3]; · iexact H3
      unfold sPts; iexact H4
    iintro ⟨HO, Hc⟩
    ihave H := (ih (fun e he => hds e (List.mem_cons_of_mem _ he))) $$ [HO Hrest]
    · isplitr; · iexact HK
      isplitl [HO]; · iexact HO
      iexact Hrest
    iapply H
    iintro ⟨HO, Hcs⟩
    iapply Hk
    isplitl [HO]; · iexact HO
    isplitl [Hc]; · iexact Hc
    iexact Hcs

end Cert.Moe

end
-- ==== Proof.Loops.lean ====
/- The rest of the body's steps: the barrier's wait, the receives with their loads and stores, the closing waits. -/
module

public import proofs.«01_k».proof.Proof.Steps
public import Idealize.ShloMosaic.Lib.Pipeline.BigSepL

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (K : Dev nD × Kind → ℕ) {c : Dev nD} {A : Addr}

/-! ## The barrier's wait -/

/-- The distances back are the distances again. -/
theorem bigSepL_back (Φ : Fin 16 → sProp 𝕄) : bigSepL dists Φ = bigSepL dists fun d => Φ (back d) := by
  rw [← bigSepL_map back, ← bigSep_eq_bigSepL_of_eq (S := Finset.univ.erase 0) dists (by decide) dists_nodup,
    bigSep_eq_bigSepL_of_eq (dists.map back) (by decide) (by decide)]

/-- The slots that the fifteen payments hand over are the ones this device sends to. -/
theorem bar_slots (c : Dev nD) : (bigSepL dists fun e => barPay (F := F) c e)
    = bigSepL dists fun d => iprop(some' (F := F) (up d c) (slot bM d) ∗ some' (F := F) (up d c) (slot aM d)) := by
  rw [bigSepL_back fun e => barPay (F := F) c e]
  unfold barPay
  simp only [dn_back, back_back]

/-- The slots a device hands over in its signals are its own. -/
theorem own_slots (c : Dev nD) : (bigSepL dists fun d => barPay (F := F) (up d c) d)
    = bigSepL dists fun d => iprop(some' (F := F) c (slot bM d) ∗ some' (F := F) c (slot aM d)) := by
  rw [bigSepL_back fun d => iprop(some' (F := F) c (slot bM d) ∗ some' (F := F) c (slot aM d))]
  unfold barPay
  simp only [dn_up]

/-- The barrier's wait: every other device's two slots come with it. -/
theorem step_bar (Q : PUnit → sProp 𝕄) (p : PUnit → PG F) :
    iprop(records m K ∗ levAts L lv ∗ cred (tallyAt (barC c) 1 15) ∗ ow c (owe2 c dists) ∗ atPos ER (barC c) 0 ∅ 0)
      ⊢ iprop((ow c (owe2 c dists) ∗ atPos ER (barC c) 1 ∅ 0
          ∗ (bigSepL dists fun d => iprop(some' (F := F) (up d c) (slot bM d) ∗ some' (F := F) (up d c) (slot aM d))) -∗ runs c (p ⟨⟩) Q)
        -∗ runs c (.op (.semWait barS 15) p) Q) := by
  unfold ow
  iintro ⟨#HK, #Hlev, Hc, ⟨%W, HO⟩, Hat⟩ Hk
  ihave Hi := (records_bar m K c) $$ HK
  unfold known
  icases Hi with ⟨%κ, #HI, #HR⟩
  iapply (Rounds.wp_wait_rest_token Variants.none ER (sched m) (c : Thread nD τ) none (κ := κ)
      (wpE_semWait_eq Variants.none (c : Thread nD τ) none Set.univ) (Set.mem_univ _) 1 (O := owe2 c dists) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait (by decide : 1 < 2) (by decide) c _ (over2 c dists)); iexact Hlev
    iexact Hat
  iintro ⟨HO, Hat, -, Hpay⟩
  ihave Hp := (Entails.of_eq ((rest_bar m c).trans (bar_slots c))) $$ Hpay
  iapply Hk
  isplitl [HO]; · iexists _; iexact HO
  isplitl [Hat]; · iexact Hat
  iexact Hp

/-! ## The receives -/

/-- Reading a slot's rectangle stays inside the slot. -/
theorem slot_mem (B : Memref sig .tc .vmem S16x32x512 .bf16) (d : Fin 16) : B.view.setOn (slotR d).toLoadRect.set ⊆ (slot B d).view.set := by
  have h : (slot B d).view.set = (B.view.slice (slotR d)).set := View.set_reshape _ _
  rw [h, View.set_slice]; exact Finset.Subset.refl _

/-- A slot loaded and widened is what the slot holds, widened. -/
theorem widen_slot (B : Memref sig .tc .vmem S16x32x512 .bf16) (d : Fin 16) (f : B.view.ty.Contents (Elt F)) :
    widen (B.view.readAt (Elt F) (slotR d).toLoadRect f) = extf .f32 ((slot B d).view.read (Elt F) f) bitsLt_bf16_f32 := rfl

/-- The fifteen arrivals of the reduce-scatter, added in order. -/
theorem run_rsRecvs (Q : PUnit → sProp 𝕄) (p : FVec F S32x512 .f32 → PG F) (ds : List (Fin 16)) (hds : ∀ d ∈ ds, d ≠ 0) :
    ∀ v : FVec F S32x512 .f32,
    iprop(records m K ∗ levAts L lv ∗ ow c (owe3 c dists) ∗ bigSepL ds fun d => iprop(cred (tallyAt (dmaC 1 d c) 2 N) ∗ atPos ER (dmaC 1 d c) 0 ∅ 0))
      ⊢ iprop((ow c (owe3 c dists) ∗ (bigSepL ds fun d => iprop(atPos ER (dmaC 1 d c) 1 ∅ 0 ∗ some' (F := F) c (slot bM d))) -∗ runs c (p (sumFrom m c ds v)) Q)
        -∗ runs c (rsRecvs A ds v p) Q) := by
  induction ds with
  | nil =>
    intro v
    iintro ⟨-, -, HO, -⟩ Hk
    iapply Hk
    isplitl [HO]; · iexact HO
    rw [bigSepL_nil]; iempintro
  | cons d ds ih =>
    intro v
    have hd := hds d List.mem_cons_self
    rw [bigSepL_cons', bigSepL_cons']
    unfold rsRecvs
    iintro ⟨#HK, #Hlev, HO, ⟨⟨Hc, Hat⟩, Hrest⟩⟩ Hk
    iapply (step_wait m K c Q 1 hd (by decide : 2 < 3) (by decide) (over3 c dists) (S := cc0_scratch5) rfl (credit_b d) _) $$ [Hc HO Hat]
    · isplitr; · iexact HK
      isplitr; · iexact Hlev
      isplitl [Hc]; · iexact Hc
      isplitl [HO]; · iexact HO
      iexact Hat
    iintro ⟨HO, Hat, Hp⟩
    unfold dmaPay owns
    icases Hp with ⟨%f, %hf, Hp⟩
    iapply (wp_load Variants.none (c : Thread nD τ) none Set.univ (m := bM) (slot_mem bM d)) $$ Hp
    iintro Hp
    rw [widen_slot, hf]
    ihave H := (ih (fun e he => hds e (List.mem_cons_of_mem _ he)) _) $$ [HO Hrest]
    · isplitr; · iexact HK
      isplitr; · iexact Hlev
      isplitl [HO]; · iexact HO
      iexact Hrest
    iapply H
    iintro ⟨HO, Hr⟩
    iapply Hk
    isplitl [HO]; · iexact HO
    isplitl [Hat Hp]
    · isplitl [Hat]; · iexact Hat
      unfold some'; iexists f; iexact Hp
    iexact Hr

/-- The result with one block of rows replaced, and with the arriving blocks of a list of distances replaced in turn. -/
def rowsAt (o : Dev nD) (v : FVec F S32x512 .f32) (f : Vec F S512x512 .f32) : Vec F S512x512 .f32 :=
  (oM.access (rowsR ![32 * o.val, 0] (blk_inb o)) : View sig .tc _ _ _).write (Elt F) f v Finset.univ
def putAll (c : Dev nD) : List (Fin 16) → Vec F S512x512 .f32 → Vec F S512x512 .f32
  | [], f => f
  | d :: ds, f => putAll c ds (rowsAt (dn d c) (extf .f32 (sent m (dn d c)) bitsLt_bf16_f32) f)

/-- The result buffer, held whole. -/
def oPts (c : Dev nD) (f : Vec F S512x512 .f32) : sProp 𝕄 := (oM.view.loc (c : Thread nD τ)) ↦{fullShare} (f : Buf (Elt F) (oM.view.loc (c : Thread nD τ)))

/-- Storing thirty-two rows into the result puts them at that block. -/
theorem run_putRows (Q : PUnit → sProp 𝕄) (p : PG F) (o : Dev nD) {off : Fin 2 → Nat} (ho : off = ![32 * o.val, 0])
    (h : ∀ a, off a + S32x512.size a ≤ S512x512.size a) (v : FVec F S32x512 .f32) (f : Vec F S512x512 .f32) :
    oPts c f ⊢ iprop((oPts c (rowsAt o v f) -∗ runs c p Q) -∗ runs c (putRows off h v p) Q) := by
  subst ho
  unfold putRows oPts rowsAt
  iintro Ho Hk
  iapply (wp_load Variants.none (c : Thread nD τ) none Set.univ (m := oM) (Finset.subset_univ _)) $$ Ho; iintro Ho
  iapply (wp_store Variants.none (c : Thread nD τ) none Set.univ (m := oM) (r := rowsR ![32 * o.val, 0] h) (Mk := Finset.univ) (Finset.subset_univ _)) $$ Ho; iintro Ho
  iapply Hk; iexact Ho

/-- The fifteen arrivals of the all-gather, stored in order. -/
theorem run_agRecvs (hA : A.Good c) (Q : PUnit → sProp 𝕄) (p : PG F) (ds : List (Fin 16)) (hds : ∀ d ∈ ds, d ≠ 0) :
    ∀ f : Vec F S512x512 .f32,
    iprop(records m K ∗ levAts L lv ∗ ow c 0 ∗ oPts c f ∗ bigSepL ds fun d => iprop(cred (tallyAt (dmaC 3 d c) 3 N) ∗ atPos ER (dmaC 3 d c) 0 ∅ 0))
      ⊢ iprop((ow c 0 ∗ oPts c (putAll m c ds f) ∗ (bigSepL ds fun d => iprop(atPos ER (dmaC 3 d c) 1 ∅ 0 ∗ some' (F := F) c (slot aM d))) -∗ runs c p Q)
        -∗ runs c (agRecvs A ds p) Q) := by
  induction ds with
  | nil =>
    intro f
    iintro ⟨-, -, HO, Hf, -⟩ Hk
    iapply Hk
    isplitl [HO]; · iexact HO
    isplitl [Hf]; · iexact Hf
    rw [bigSepL_nil]; iempintro
  | cons d ds ih =>
    intro f
    have hd := hds d List.mem_cons_self
    rw [bigSepL_cons', bigSepL_cons']
    unfold agRecvs
    iintro ⟨#HK, #Hlev, HO, Hf, ⟨⟨Hc, Hat⟩, Hrest⟩⟩ Hk
    iapply (step_wait m K c Q 3 hd (by decide : 3 < 4) (by decide) (Over.zero 4) (S := cc0_scratch7) rfl (credit_a d) _) $$ [Hc HO Hat]
    · isplitr; · iexact HK
      isplitr; · iexact Hlev
      isplitl [Hc]; · iexact Hc
      isplitl [HO]; · iexact HO
      iexact Hat
    iintro ⟨HO, Hat, Hp⟩
    unfold dmaPay owns
    icases Hp with ⟨%g, %hg, Hp⟩
    iapply (wp_load Variants.none (c : Thread nD τ) none Set.univ (m := aM) (slot_mem aM d)) $$ Hp
    iintro Hp
    rw [widen_slot, hg]
    iapply (run_putRows Q _ (dn d c) (hA.oA d hd) (A.hA d) _ f) $$ Hf
    iintro Hf
    ihave H := (ih (fun e he => hds e (List.mem_cons_of_mem _ he)) _) $$ [HO Hf Hrest]
    · isplitr; · iexact HK
      isplitr; · iexact Hlev
      isplitl [HO]; · iexact HO
      isplitl [Hf]; · iexact Hf
      iexact Hrest
    iapply H
    iintro ⟨HO, Hf, Hr⟩
    iapply Hk
    isplitl [HO]; · iexact HO
    isplitl [Hf]; · iexact Hf
    isplitl [Hat Hp]
    · isplitl [Hat]; · iexact Hat
      unfold some'; iexists g; iexact Hp
    iexact Hr

/-! ## The closing waits -/

/-- The fifteen waits for the reduce-scatter's sends: the blocks sent are the device's again. -/
theorem run_rsDone (hA : A.Good c) (Q : PUnit → sProp 𝕄) (p : PG F) (ds : List (Fin 16)) (hds : ∀ d ∈ ds, d ≠ 0) :
    iprop(records m K ∗ levAts L lv ∗ ow c 0 ∗ bigSepL ds fun d => iprop(cred (tallyAt (dmaC 0 d c) 0 N) ∗ atPos ER (dmaC 0 d c) 0 ∅ 0))
      ⊢ iprop((ow c 0 ∗ (bigSepL ds fun d => iprop(atPos ER (dmaC 0 d c) 1 ∅ 0 ∗ some' (F := F) c (blkM (up d c)))) -∗ runs c p Q)
        -∗ runs c (rsDone A ds p) Q) := by
  induction ds with
  | nil =>
    iintro ⟨-, -, HO, -⟩ Hk
    iapply Hk
    isplitl [HO]; · iexact HO
    rw [bigSepL_nil]; iempintro
  | cons d ds ih =>
    have hd := hds d List.mem_cons_self
    rw [bigSepL_cons', bigSepL_cons']
    unfold rsDone
    iintro ⟨#HK, #Hlev, HO, ⟨⟨Hc, Hat⟩, Hrest⟩⟩ Hk
    iapply (step_wait m K c Q 0 hd (by decide : 0 < 4) (by decide) (Over.zero 4) (S := cc0_scratch4) rfl
      (by rw [part_eq hA hd]) _) $$ [Hc HO Hat]
    · isplitr; · iexact HK
      isplitr; · iexact Hlev
      isplitl [Hc]; · iexact Hc
      isplitl [HO]; · iexact HO
      iexact Hat
    iintro ⟨HO, Hat, Hp⟩
    unfold dmaPay
    ihave H := (ih (fun e he => hds e (List.mem_cons_of_mem _ he))) $$ [HO Hrest]
    · isplitr; · iexact HK
      isplitr; · iexact Hlev
      isplitl [HO]; · iexact HO
      iexact Hrest
    iapply H
    iintro ⟨HO, Hr⟩
    iapply Hk
    isplitl [HO]; · iexact HO
    isplitl [Hat Hp]
    · isplitl [Hat]; · iexact Hat
      iexact Hp
    iexact Hr

/-- The fifteen waits for the all-gather's sends: the shares of the summed rows are the device's again. -/
theorem run_agDone (Q : PUnit → sProp 𝕄) (p : PG F) (ds : List (Fin 16)) (hds : ∀ d ∈ ds, d ≠ 0) :
    iprop(records m K ∗ levAts L lv ∗ ow c 0 ∗ bigSepL ds fun d => iprop(cred (tallyAt (dmaC 2 d c) 0 N) ∗ atPos ER (dmaC 2 d c) 0 ∅ 0))
      ⊢ iprop((ow c 0 ∗ (bigSepL ds fun d => iprop(atPos ER (dmaC 2 d c) 1 ∅ 0 ∗ sPts m (tok d) c)) -∗ runs c p Q)
        -∗ runs c (agDone ds p) Q) := by
  induction ds with
  | nil =>
    iintro ⟨-, -, HO, -⟩ Hk
    iapply Hk
    isplitl [HO]; · iexact HO
    rw [bigSepL_nil]; iempintro
  | cons d ds ih =>
    have hd := hds d List.mem_cons_self
    rw [bigSepL_cons', bigSepL_cons']
    unfold agDone
    iintro ⟨#HK, #Hlev, HO, ⟨⟨Hc, Hat⟩, Hrest⟩⟩ Hk
    iapply (step_wait m K c Q 2 hd (by decide : 0 < 4) (by decide) (Over.zero 4) (S := cc0_scratch6) rfl rfl _) $$ [Hc HO Hat]
    · isplitr; · iexact HK
      isplitr; · iexact Hlev
      isplitl [Hc]; · iexact Hc
      isplitl [HO]; · iexact HO
      iexact Hat
    iintro ⟨HO, Hat, Hp⟩
    unfold dmaPay
    ihave H := (ih (fun e he => hds e (List.mem_cons_of_mem _ he))) $$ [HO Hrest]
    · isplitr; · iexact HK
      isplitr; · iexact Hlev
      isplitl [HO]; · iexact HO
      iexact Hrest
    iapply H
    iintro ⟨HO, Hr⟩
    iapply Hk
    isplitl [HO]; · iexact HO
    isplitl [Hat Hp]
    · isplitl [Hat]; · iexact Hat
      iexact Hp
    iexact Hr

/-- A cell whose round is over closes, its counter at zero. -/
theorem close_one {g : GSem nD τ sig} : iprop(known m g ∗ atPos ER g 1 ∅ 0) ⊢ iprop(|={Set.univ}=> semVal g 0 : sProp 𝕄) := by
  unfold known
  iintro ⟨⟨%κ, #HI, -⟩, Hat⟩
  iapply (Rounds.cell_close ER (sched m) (Set.mem_univ κ) (fun h => h) (R := 1) (duties_later m g))
  isplitr; · iexact HI
  iexact Hat

/-- The cells of an array close. -/
theorem close_all (k : Fin 4) (ds : List (Fin 16)) (hds : ∀ d ∈ ds, d ≠ 0) :
    iprop(records m K ∗ bigSepL ds fun d => atPos ER (dmaC k d c) 1 ∅ 0) ⊢ iprop(|={Set.univ}=> bigSepL ds fun d => semVal (dmaC k d c) 0 : sProp 𝕄) := by
  induction ds with
  | nil => iintro -; imodintro; rw [bigSepL_nil]; iempintro
  | cons d ds ih =>
    rw [bigSepL_cons', bigSepL_cons']
    iintro ⟨#HK, Hat, Hr⟩
    imod (close_one m (g := dmaC k d c)) $$ [Hat] with Hz
    · isplitr; · iapply (records_dma m K k (hds d List.mem_cons_self) c); iexact HK
      iexact Hat
    imod (ih (fun e he => hds e (List.mem_cons_of_mem _ he))) $$ [Hr] with Hzs
    · isplitr; · iexact HK
      iexact Hr
    imodintro
    isplitl [Hz]; · iexact Hz
    iexact Hzs

end Cert.Moe

end
-- ==== Proof.Pieces.lean ====
/- The buffers cut into the blocks and slots that travel, and put back together. -/
module

public import proofs.«01_k».proof.Proof.Loops
public import Idealize.ShloMosaic.Lib.Pipeline.BigSepL
public import Idealize.ShloMosaic.Lib.Ring

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Lists of distances -/

/-- The product over the distances is the product over the fifteen numbers one below them. -/
theorem bigSepL_succ (Φ : Fin 16 → sProp 𝕄) : bigSepL dists Φ = bigSep Finset.univ fun e : Fin 15 => Φ e.succ := by
  rw [dists_succ, bigSepL_map, bigSep_univ_eq_bigSepL (List.finRange 15) (by decide) (List.nodup_finRange 15)]

/-- The product of pairs over the distances is the pair of products. -/
theorem bigSepL_pair (Φ Ψ : Fin 16 → sProp 𝕄) : (bigSepL dists fun d => iprop(Φ d ∗ Ψ d)) = iprop(bigSepL dists Φ ∗ bigSepL dists Ψ) := by
  simp only [bigSepL_succ]; exact bigSep_sep' _ _ _

/-- All sixteen: one's own and the fifteen at a distance. -/
theorem bigSep_slots (Φ : Fin 16 → sProp 𝕄) : bigSep Finset.univ Φ = iprop(Φ 0 ∗ bigSepL dists Φ) := by
  rw [bigSep_univ_eq_bigSepL (0 :: dists) (by decide) (by decide), bigSepL_cons']
/-- A device and those at each distance from it are all the devices. -/
theorem ring_univ : ∀ c : Dev nD, (Finset.univ : Finset (Dev nD)) = (c :: dists.map fun d => up d c).toFinset := by decide +kernel
/-- A device and those at each distance from it are distinct. -/
theorem ring_nodup : ∀ c : Dev nD, (c :: dists.map fun d => up d c).Nodup := by decide +kernel
/-- What all devices hold is what one holds and what those at each distance hold. -/
theorem bigSep_ring (c : Dev nD) (Φ : Dev nD → sProp 𝕄) : bigSep Finset.univ Φ = iprop(Φ c ∗ bigSepL dists fun d => Φ (up d c)) := by
  rw [bigSep_univ_eq_bigSepL (c :: dists.map fun d => up d c) (ring_univ c) (ring_nodup c), bigSepL_cons', bigSepL_map]

/-! ## The slots of an arrival buffer -/

/-- An index lies in slot `d` exactly when its first coordinate is `d`. -/
theorem mem_slotR (d : Fin 16) (y : S16x32x512.Idx) : y ∈ (slotR d).set ↔ (y 0).val = d.val := by
  rw [Rect.mem_set_unit]
  have h1 : (y 1).val < 32 := (y 1).isLt
  have h2 : (y 2).val < 512 := (y 2).isLt
  constructor
  · intro H; have a0 : d.val ≤ (y 0).val ∧ (y 0).val < d.val + 1 := H 0; omega
  · intro H i; fin_cases i
    · show d.val ≤ (y 0).val ∧ (y 0).val < d.val + 1; omega
    · show 0 ≤ (y 1).val ∧ (y 1).val < 0 + 32; omega
    · show 0 ≤ (y 2).val ∧ (y 2).val < 0 + 512; omega

section Slots
variable (B : Memref sig .tc .vmem S16x32x512 .bf16) (hB : B.view.set = Finset.univ)

/-- A slot's elements inside its buffer. -/
theorem slot_set (d : Fin 16) : (slot B d).view.set = (slotR d).set.map B.view.emb := by
  have h : (slot B d).view.set = (B.view.slice (slotR d)).set := View.set_reshape _ _
  rw [h, View.set_slice]

/-- Distinct slots share no element. -/
theorem slots_disjoint (d d' : Fin 16) (h : d ≠ d') : Disjoint (slot B d).view.set (slot B d').view.set := by
  have e : Disjoint ((slotR d).set.map B.view.emb) ((slotR d').set.map B.view.emb) := by
    rw [Finset.disjoint_map, Finset.disjoint_left]
    intro y hy hy'; rw [mem_slotR] at hy hy'; exact h (Fin.ext (hy.symm.trans hy'))
  rw [← slot_set, ← slot_set] at e; exact e

include hB in
/-- The slots cover their buffer. -/
theorem slots_cover : (Finset.univ : Finset (Fin 16)).biUnion (fun d => (slot B d).view.set) = (Finset.univ : Finset B.view.ty.Idx) := by
  ext y
  simp only [Finset.mem_biUnion, Finset.mem_univ, true_and, iff_true]
  obtain ⟨x, -, rfl⟩ := Finset.mem_map.mp (show y ∈ B.view.set by rw [hB]; exact Finset.mem_univ y)
  refine ⟨⟨(x 0).val, (x 0).isLt⟩, ?_⟩
  have e : B.view.emb x ∈ (slotR ⟨(x 0).val, (x 0).isLt⟩).set.map B.view.emb := Finset.mem_map_of_mem _ ((mem_slotR _ _).mpr rfl)
  rw [← slot_set] at e; exact e

include hB in
/-- A buffer of sixteen slots is its slots, -/
theorem slots_split (c : Dev nD) (f : Buf (Elt F) (B.view.loc (c : Thread nD τ))) :
    (B.view.loc (c : Thread nD τ) ↦{fullShare} f) ⊢ iprop(some' (F := F) c (slot B 0) ∗ bigSepL dists fun d => some' (F := F) c (slot B d)) := by
  rw [← bigSep_slots fun d => some' (F := F) c (slot B d)]
  refine (Entails.of_eq (Ring.pointsTo_blocks (ℓ := B.view.loc (c : Thread nD τ)) (fun d : Fin 16 => (slot B d).view.set) (slots_disjoint B) (slots_cover B hB) f)).trans ?_
  refine bigSep_mono fun d _ => ?_
  unfold some'
  show (_ : sProp 𝕄) ⊢ _
  iintro H; iexists f; iexact H

include hB in
/-- and the slots, each at some contents, are the buffer at some contents. -/
theorem slots_join (c : Dev nD) (f₀ : Buf (Elt F) (B.view.loc (c : Thread nD τ))) :
    iprop(some' (F := F) c (slot B 0) ∗ bigSepL dists fun d => some' (F := F) c (slot B d)) ⊢ iprop(∃ g, B.view.loc (c : Thread nD τ) ↦{fullShare} g) := by
  rw [← bigSep_slots fun d => some' (F := F) c (slot B d)]
  exact Ring.pointsTo_blocks_join_exists (ℓ := B.view.loc (c : Thread nD τ)) (fun d : Fin 16 => (slot B d).view.set) (slots_disjoint B) (slots_cover B hB) f₀

end Slots

/-! ## The blocks of rows -/

/-- An index lies in block `o` of the rows exactly when its row divided by thirty-two is `o`. -/
theorem mem_rowsR (o : Dev nD) (y : S512x512.Idx) : y ∈ (rowsR ![32 * o.val, 0] (blk_inb o)).set ↔ (y 0).val / 32 = o.val := by
  rw [Rect.mem_set_unit]
  have h1 : (y 1).val < 512 := (y 1).isLt
  constructor
  · intro H; have a0 : 32 * o.val ≤ (y 0).val ∧ (y 0).val < 32 * o.val + 32 := H 0; omega
  · intro H i; fin_cases i
    · show 32 * o.val ≤ (y 0).val ∧ (y 0).val < 32 * o.val + 32; omega
    · show 0 ≤ (y 1).val ∧ (y 1).val < 0 + 512; omega

/-- The block a row lies in. -/
def blkOf (y : S512x512.Idx) : Dev nD := ⟨(y 0).val / 32, by have h : (y 0).val < 512 := (y 0).isLt; show (y 0).val / 32 < 16; omega⟩

/-- A block's elements are its rows. -/
theorem blk_set (o : Dev nD) : (blkM o).view.set = (rowsR ![32 * o.val, 0] (blk_inb o)).set := View.set_slice_whole _ _

/-- Distinct blocks share no element. -/
theorem blks_disjoint (o o' : Dev nD) (h : o ≠ o') : Disjoint (blkM o).view.set (blkM o').view.set := by
  have e : Disjoint (rowsR ![32 * o.val, 0] (blk_inb o)).set (rowsR ![32 * o'.val, 0] (blk_inb o')).set := by
    rw [Finset.disjoint_left]
    intro y hy hy'; rw [mem_rowsR] at hy hy'; exact h (Fin.ext (hy.symm.trans hy'))
  rw [← blk_set, ← blk_set] at e; exact e

/-- The blocks cover the contribution. -/
theorem blks_cover : (Finset.univ : Finset (Dev nD)).biUnion (fun o => (blkM o).view.set) = (Finset.univ : Finset S512x512.Idx) := by
  ext y
  simp only [Finset.mem_biUnion, Finset.mem_univ, true_and, iff_true]
  refine ⟨blkOf y, ?_⟩
  have e : y ∈ (rowsR ![32 * (blkOf y).val, 0] (blk_inb (blkOf y))).set := (mem_rowsR _ _).mpr rfl
  rw [← blk_set] at e; exact e

/-- A block of the contribution. -/
def pPts (c o : Dev nD) : sProp 𝕄 := (blkM o).view.loc (c : Thread nD τ) ↦[(blkM o).view.set]{fullShare} (part m c : Buf (Elt F) ((blkM o).view.loc (c : Thread nD τ)))

/-- The contribution is its sixteen blocks, -/
theorem blks_split (c : Dev nD) : (pM.view.loc (c : Thread nD τ) ↦{fullShare} (part m c : Buf (Elt F) (pM.view.loc (c : Thread nD τ))))
    ⊢ iprop(pPts m c c ∗ bigSepL dists fun d => pPts m c (up d c)) := by
  rw [← bigSep_ring c fun o => pPts m c o]
  exact Entails.of_eq (Ring.pointsTo_blocks (ℓ := pM.view.loc (c : Thread nD τ)) (fun o : Dev nD => (blkM o).view.set) blks_disjoint blks_cover _)

/-- and the blocks, each at some contents, are the buffer at some contents. -/
theorem blks_join (c : Dev nD) (f₀ : Buf (Elt F) (pM.view.loc (c : Thread nD τ))) : iprop(some' (F := F) c (blkM c) ∗ bigSepL dists fun d => some' (F := F) c (blkM (up d c)))
    ⊢ iprop(∃ g, pM.view.loc (c : Thread nD τ) ↦{fullShare} g) := by
  rw [← bigSep_ring c fun o => some' (F := F) c (blkM o)]
  exact Ring.pointsTo_blocks_join_exists (ℓ := pM.view.loc (c : Thread nD τ)) (fun o : Dev nD => (blkM o).view.set) blks_disjoint blks_cover f₀

/-! ## The summed rows, shared among the fifteen sends -/

/-- The summed rows split into a share for each send and a rest. -/
theorem sum_split (c : Dev nD) : sPts m fullShare c ⊢ iprop(sPts m (Transfers.shareDrop fullShare 15) c ∗ bigSepL dists fun d => sPts m (tok d) c) := by
  rw [bigSepL_succ]; unfold sPts
  exact Transfers.pointsTo_toks_split fullShare 15
/-- Those shares join to the summed rows again. -/
theorem sum_join (c : Dev nD) : iprop(sPts m (Transfers.shareDrop fullShare 15) c ∗ bigSepL dists fun d => sPts m (tok d) c) ⊢ sPts m fullShare c := by
  rw [bigSepL_succ]; unfold sPts
  exact Transfers.pointsTo_toks_join fullShare 15

/-! ## The result, whatever the buffer held -/

/-- Two arrays that agree outside the block agree after storing it. -/
theorem rowsAt_congr (o : Dev nD) (v : FVec F S32x512 .f32) {f g : Vec F S512x512 .f32} {y : S512x512.Idx} (h : blkOf y ≠ o → f y = g y) :
    rowsAt o v f y = rowsAt o v g y := by
  unfold rowsAt
  refine View.write_congr (hM := fun _ _ _ => rfl) (hf := fun hy => h fun e => hy ?_)
  have : y ∈ (oM.access (rowsR ![32 * o.val, 0] (blk_inb o)) : View sig .tc _ _ _).set := by
    rw [show (oM.access (rowsR ![32 * o.val, 0] (blk_inb o)) : View sig .tc _ _ _).set = (rowsR ![32 * o.val, 0] (blk_inb o)).set from View.set_slice_whole _ _]
    exact (mem_rowsR _ _).mpr (congrArg Fin.val e)
  exact this

/-- Two arrays that agree outside the listed blocks agree after storing them. -/
theorem putAll_congr (c : Dev nD) (ds : List (Fin 16)) : ∀ (f g : Vec F S512x512 .f32) (y : S512x512.Idx),
    ((∀ d ∈ ds, blkOf y ≠ dn d c) → f y = g y) → putAll m c ds f y = putAll m c ds g y := by
  induction ds with
  | nil => intro f g y h; exact h fun _ hd => absurd hd (List.not_mem_nil)
  | cons d ds ih =>
    intro f g y h
    refine ih _ _ y fun h' => rowsAt_congr _ _ fun hne => h fun e he => ?_
    rcases List.mem_cons.mp he with rfl | he
    · exact hne
    · exact h' e he

/-- The result of device `c`: its own summed rows and the fifteen that arrive. -/
def outAt (c : Dev nD) : Vec F S512x512 .f32 := putAll m c dists (rowsAt c (total m c) (extf .f32 (part m c) bitsLt_bf16_f32))

/-- Every other device is at one of the fifteen distances. -/
theorem ring_dn : ∀ c o : Dev nD, o ≠ c → ∃ d ∈ dists, o = dn d c := by decide +kernel

/-- The result does not depend on what the result buffer held. -/
theorem outAt_eq (c : Dev nD) (f : Vec F S512x512 .f32) : putAll m c dists (rowsAt c (total m c) f) = outAt m c := by
  funext y
  refine putAll_congr m c dists _ _ y fun h => rowsAt_congr _ _ fun hne => ?_
  obtain ⟨d, hd, e⟩ := ring_dn c (blkOf y) hne
  exact absurd e (h d hd)

end Cert.Moe

end
-- ==== Proof.Body.lean ====
/- The body of the kernel on a device, from what the launch hands it to what it leaves. -/
module

public import proofs.«01_k».proof.Proof.Pieces
public import Idealize.ShloMosaic.Lib.Pipeline.BigSepL
public import Idealize.ShloMosaic.Lib.Ring

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (ρ : Dev nD → PrngReg)

/-! ## The pipeline's data -/

/-- The grid has one point. -/
theorem cfg0_N : cfg0.N = 1 := by decide
def t₀ : Fin cfg0.N := ⟨0, by rw [cfg0_N]; decide⟩
/-- Every point of the grid is the one. -/
theorem fin_N (t : Fin cfg0.N) : t = t₀ := by
  obtain ⟨t, ht⟩ := t; have := cfg0_N; exact Fin.ext (by simp only [t₀]; omega)

/-- What a device starts from beside its credits: every cell's record, its positions at its own cells, the tokens of the duties it pays. -/
def ghost (K : Dev nD × Kind → ℕ) (c : Dev nD) : sProp 𝕄 :=
  iprop(records m K
    ∗ (atPos ER (barC c) 0 ∅ 0 ∗ (bigSepL dists fun d => atPos ER (dmaC 0 d c) 0 ∅ 0) ∗ (bigSepL dists fun d => atPos ER (dmaC 1 d c) 0 ∅ 0)
      ∗ (bigSepL dists fun d => atPos ER (dmaC 2 d c) 0 ∅ 0) ∗ (bigSepL dists fun d => atPos ER (dmaC 3 d c) 0 ∅ 0))
    ∗ ((bigSepL dists fun d => dutyTok ER (barC (up d c)) 0 d) ∗ (bigSepL dists fun d => dutyTok ER (dmaC 0 d c) 0 0) ∗ (bigSepL dists fun d => dutyTok ER (dmaC 1 d (up d c)) 0 0)
      ∗ (bigSepL dists fun d => dutyTok ER (dmaC 2 d c) 0 0) ∗ (bigSepL dists fun d => dutyTok ER (dmaC 3 d (up d c)) 0 0)))

/-- Its credits: the fifteen units of its barrier, a block at each of its receiving cells. -/
def creds (c : Dev nD) : sProp 𝕄 :=
  iprop(cred (tallyAt (barC c) 1 15) ∗ (bigSepL dists fun d => cred (tallyAt (dmaC 1 d c) 2 N)) ∗ (bigSepL dists fun d => cred (tallyAt (dmaC 3 d c) 3 N)))

/-- The four buffers of the kernel's own, each at some contents. -/
def scr (c : Dev nD) : sProp 𝕄 :=
  iprop((∃ f, pM.view.loc (c : Thread nD τ) ↦{fullShare} f) ∗ (∃ f, sM.view.loc (c : Thread nD τ) ↦{fullShare} f)
    ∗ (∃ f, bM.view.loc (c : Thread nD τ) ↦{fullShare} f) ∗ (∃ f, aM.view.loc (c : Thread nD τ) ↦{fullShare} f))

/-- All of a device's own cells at zero. -/
def zeros (c : Dev nD) : sProp 𝕄 :=
  iprop((bigSepL dists fun d => semVal (dmaC 0 d c) 0) ∗ (bigSepL dists fun d => semVal (dmaC 1 d c) 0)
    ∗ (bigSepL dists fun d => semVal (dmaC 2 d c) 0) ∗ (bigSepL dists fun d => semVal (dmaC 3 d c) 0))

def start (c : Dev nD) : sProp 𝕄 := iprop((∃ K, ghost m K c) ∗ creds c ∗ levAts L lv)
def Φ₀ (c : Dev nD) : sProp 𝕄 := iprop(start m c ∗ scr (F := F) c)
def Φ₁ (c : Dev nD) : sProp 𝕄 := iprop(scr (F := F) c ∗ zeros c ∗ semVal (barC c) 0)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => stgX m c
    | ⟨1, _⟩ => stgG m c
    | ⟨2, _⟩ => stgI m c
    | ⟨3, _⟩ => stgE m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer's view is holding its location. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The computation and the two stores -/

/-- The offset of two literal zeros is the zero offset. -/
theorem hz2 : (![0, 0] : Fin 2 → Nat) = fun _ => 0 := funext fun a => by fin_cases a <;> rfl

/-- The inputs in their staging buffers. -/
def inPts (c : Dev nD) : sProp 𝕄 :=
  iprop((xM.view.loc (c : Thread nD τ) ↦{fullShare} (stgX m c : Buf (Elt F) (xM.view.loc (c : Thread nD τ)))) ∗ (gM.view.loc (c : Thread nD τ) ↦{fullShare} (stgG m c : Buf (Elt F) (gM.view.loc (c : Thread nD τ))))
    ∗ (iM.view.loc (c : Thread nD τ) ↦{fullShare} (stgI m c : Buf (Elt F) (iM.view.loc (c : Thread nD τ)))) ∗ (eM.view.loc (c : Thread nD τ) ↦{fullShare} (stgE m c : Buf (Elt F) (eM.view.loc (c : Thread nD τ)))))

/-- The computation fills the contribution buffer. -/
theorem run_compute (c : Dev nD) (Q : PUnit → sProp 𝕄) (p : PG F) (f : Buf (Elt F) (pM.view.loc (c : Thread nD τ))) :
    iprop(inPts m c ∗ (pM.view.loc (c : Thread nD τ) ↦{fullShare} f))
      ⊢ iprop((inPts m c ∗ (pM.view.loc (c : Thread nD τ) ↦{fullShare} (part m c : Buf (Elt F) (pM.view.loc (c : Thread nD τ)))) -∗ runs c p Q) -∗ runs c (compute c p) Q) := by
  unfold compute inPts
  iintro ⟨⟨Hx, Hg, Hi, He⟩, Hp⟩ Hk
  iapply (wp_load Variants.none (c : Thread nD τ) none Set.univ (m := xM) (Finset.subset_univ _)) $$ Hx; iintro Hx
  iapply (wp_load Variants.none (c : Thread nD τ) none Set.univ (m := gM) (Finset.subset_univ _)) $$ Hg; iintro Hg
  iapply (wp_load Variants.none (c : Thread nD τ) none Set.univ (m := iM) (Finset.subset_univ _)) $$ Hi; iintro Hi
  iapply (wp_load Variants.none (c : Thread nD τ) none Set.univ (m := iM) (Finset.subset_univ _)) $$ Hi; iintro Hi
  iapply (wp_load Variants.none (c : Thread nD τ) none Set.univ (m := eM) (Finset.subset_univ _)) $$ He; iintro He
  iapply (wp_load Variants.none (c : Thread nD τ) none Set.univ (m := eM) (Finset.subset_univ _)) $$ He; iintro He
  iapply (wp_load Variants.none (c : Thread nD τ) none Set.univ (m := eM) (Finset.subset_univ _)) $$ He; iintro He
  iapply (wp_load Variants.none (c : Thread nD τ) none Set.univ (m := eM) (Finset.subset_univ _)) $$ He; iintro He
  iapply (wp_load Variants.none (c : Thread nD τ) none Set.univ (m := pM) (Finset.subset_univ _)) $$ Hp; iintro Hp
  iapply (wp_store Variants.none (c : Thread nD τ) none Set.univ (m := pM) (r := pR) (Mk := Finset.univ) (Finset.subset_univ _)) $$ Hp; iintro Hp
  rw [show xM.view.readAt (Elt F) xR.toLoadRect (stgX m c) = stgX m c from Memref.readAt_unit_zero (Elt F) cc0_stg0_0 hz2 _ _,
    show gM.view.readAt (Elt F) gR.toLoadRect (stgG m c) = stgG m c from Memref.readAt_unit_zero (Elt F) cc0_stg1_0 hz2 _ _,
    show iM.view.readAt (Elt F) iR.toLoadRect (stgI m c) = stgI m c from Memref.readAt_unit_zero (Elt F) cc0_stg2_0 hz2 _ _]
  have e : (pM.access pR : View sig .tc _ _ _).write (Elt F) f (contrib (myWord c) (stgX m c) (stgG m c) (stgI m c) (stgI m c)
      (eM.view.readAt (Elt F) (eR 0).toLoadRect (stgE m c)) (eM.view.readAt (Elt F) (eR 1).toLoadRect (stgE m c))
      (eM.view.readAt (Elt F) (eR 2).toLoadRect (stgE m c)) (eM.view.readAt (Elt F) (eR 3).toLoadRect (stgE m c))) Finset.univ = part m c :=
    Memref.write_access_unit_zero_univ (Elt F) cc0_scratch0 hz2 _ f _
  rw [e]
  iapply Hk
  isplitr [Hp]
  · isplitl [Hx]; · iexact Hx
    isplitl [Hg]; · iexact Hg
    isplitl [Hi]; · iexact Hi
    iexact He
  iexact Hp

/-- The summed rows rounded and stored. -/
theorem run_putSum (c : Dev nD) (Q : PUnit → sProp 𝕄) (p : PG F) (f : Buf (Elt F) (sM.view.loc (c : Thread nD τ))) :
    (sM.view.loc (c : Thread nD τ) ↦{fullShare} f) ⊢ iprop((sPts m fullShare c -∗ runs c p Q) -∗ runs c (putSum (total m c) p) Q) := by
  unfold putSum sPts
  iintro Hs Hk
  iapply (wp_load Variants.none (c : Thread nD τ) none Set.univ (m := sM) (Finset.subset_univ _)) $$ Hs; iintro Hs
  iapply (wp_store Variants.none (c : Thread nD τ) none Set.univ (m := sM) (r := sR) (Mk := Finset.univ) (Finset.subset_univ _)) $$ Hs; iintro Hs
  have e : (sM.access sR : View sig .tc _ _ _).write (Elt F) f (shapeCast S32x512 (truncf .bf16 (total m c) bitsLt_bf16_f32) shapeCasts_S32x512_S32x512) Finset.univ = sent m c :=
    Memref.write_access_unit_zero_univ (Elt F) cc0_scratch1 hz2 _ f _
  rw [e, show sM.view.set = Finset.univ from View.set_whole cc0_scratch1]
  iapply Hk; iexact Hs

/-! ## The whole body -/

/-- The addresses the program computes are those of the ring. -/
theorem printed_good (c : Dev nD) : (printed c).Good c where
  dS := by revert c; decide +kernel
  dR := by revert c; decide +kernel
  dA := by revert c; decide +kernel
  oR := by revert c; decide +kernel
  oC := by revert c; decide +kernel
  oA := by revert c; decide +kernel

/-- Thirty-two rows given by an equal offset are the rows of that block. -/
theorem rows_mem (o : Dev nD) {off : Fin 2 → Nat} (ho : off = ![32 * o.val, 0]) (h : ∀ a, off a + S32x512.size a ≤ S512x512.size a) :
    pM.view.setOn (rowsR off h).toLoadRect.set ⊆ (blkM o).view.set := by
  subst ho
  rw [show (blkM o).view.set = (rowsR ![32 * o.val, 0] h).set.map pM.view.emb from View.set_slice _ _]; exact Finset.Subset.refl _

/-- Reading thirty-two rows given by an equal offset reads that block. -/
theorem read_rows (P : Vec F S512x512 .bf16) (o : Dev nD) {off : Fin 2 → Nat} (ho : off = ![32 * o.val, 0]) (h : ∀ a, off a + S32x512.size a ≤ S512x512.size a) :
    pM.view.readAt (Elt F) (rowsR off h).toLoadRect P = chunk P o := by subst ho; rfl

/-- The loops in turn, on any good addresses. -/
theorem run_flat (K : Dev nD × Kind → ℕ) {c : Dev nD} {A : Addr} (hA : A.Good c) (Q : PUnit → sProp 𝕄) (f : Vec F S512x512 .f32) :
    iprop(ghost m K c ∗ creds c ∗ levAts L lv ∗ scr (F := F) c ∗ ow c (O₀ c) ∗ inPts m c ∗ oPts c f)
      ⊢ iprop((Φ₁ (F := F) c ∗ ow c 0 ∗ inPts m c ∗ oPts c (outAt m c) -∗ Q ⟨⟩) -∗ runs c (flat A c) Q) := by
  have hds : ∀ d ∈ dists, d ≠ 0 := fun d => mem_dists.mp
  unfold ghost creds scr flat
  iintro ⟨⟨#HK, ⟨HatB, Hat0, Hat1, Hat2, Hat3⟩, ⟨HtB, Ht0, Ht1, Ht2, Ht3⟩⟩, ⟨HcB, Hc1, Hc3⟩, #Hlev, ⟨⟨%fp, Hp⟩, ⟨%fs, Hs⟩, ⟨%fb, Hb⟩, ⟨%fa, Ha⟩⟩, HO, Hin, Ho⟩ Hk
  ihave Hb2 := (slots_split (F := F) bM (View.set_whole cc0_scratch2) c fb) $$ Hb
  ihave Ha2 := (slots_split (F := F) aM (View.set_whole cc0_scratch3) c fa) $$ Ha
  icases Hb2 with ⟨Hb0, Hbs⟩
  icases Ha2 with ⟨Ha0, Has⟩
  iapply (run_signals m K hA Q _ dists hds) $$ [HO HtB Hbs Has]
  · isplitr; · iexact HK
    isplitl [HO]; · iexact HO
    rw [bigSepL_pair, own_slots, bigSepL_pair]
    isplitl [HtB]; · iexact HtB
    isplitl [Hbs]; · iexact Hbs
    iexact Has
  iintro HO
  iapply (step_bar m K Q _) $$ [HcB HO HatB]
  · isplitr; · iexact HK
    isplitr; · iexact Hlev
    isplitl [HcB]; · iexact HcB
    isplitl [HO]; · iexact HO
    iexact HatB
  rw [bigSepL_pair]
  iintro ⟨HO, HatB, Hbu, Hau⟩
  iapply (run_compute m c Q _ fp) $$ [Hin Hp]
  · isplitl [Hin]; · iexact Hin
    iexact Hp
  iintro ⟨Hin, Hp⟩
  ihave Hp2 := (blks_split m c) $$ Hp
  icases Hp2 with ⟨Hpc, Hps⟩
  iapply (run_rsSends m K hA Q _ dists hds) $$ [HO Ht0 Ht1 Hbu Hps]
  · isplitr; · iexact HK
    isplitl [HO]; · iexact HO
    rw [bigSepL_pair, bigSepL_pair, bigSepL_pair]
    isplitl [Ht0]; · iexact Ht0
    isplitl [Ht1]; · iexact Ht1
    isplitl [Hbu]; · iexact Hbu
    iexact Hps
  iintro ⟨HO, Hc0⟩
  unfold pPts
  iapply (wp_load Variants.none (c : Thread nD τ) none Set.univ (m := pM) (rows_mem c hA.oC A.hC)) $$ Hpc; iintro Hpc
  rw [read_rows (part m c) c hA.oC A.hC]
  iapply (run_rsRecvs m K Q _ dists hds (extf .f32 (chunk (part m c) c) bitsLt_bf16_f32)) $$ [HO Hc1 Hat1]
  · isplitr; · iexact HK
    isplitr; · iexact Hlev
    isplitl [HO]; · iexact HO
    rw [bigSepL_pair]
    isplitl [Hc1]; · iexact Hc1
    iexact Hat1
  rw [bigSepL_pair]
  iintro ⟨HO, Hat1, Hbs⟩
  iapply (run_putSum m c Q _ fs) $$ Hs
  iintro Hs
  ihave Hs2 := (sum_split m c) $$ Hs
  icases Hs2 with ⟨Hs0, Hss⟩
  iapply (run_agSends m K hA Q _ dists hds) $$ [HO Ht2 Ht3 Hau Hss]
  · isplitr; · iexact HK
    isplitl [HO]; · iexact HO
    rw [bigSepL_pair, bigSepL_pair, bigSepL_pair]
    isplitl [Ht2]; · iexact Ht2
    isplitl [Ht3]; · iexact Ht3
    isplitl [Hau]; · iexact Hau
    iexact Hss
  iintro ⟨HO, Hc2⟩
  iapply (run_putRows Q _ c hA.oC A.hC (total m c) f) $$ Ho
  iintro Ho
  iapply (run_agRecvs m K hA Q _ dists hds _) $$ [HO Ho Hc3 Hat3]
  · isplitr; · iexact HK
    isplitr; · iexact Hlev
    isplitl [HO]; · iexact HO
    isplitl [Ho]; · iexact Ho
    rw [bigSepL_pair]
    isplitl [Hc3]; · iexact Hc3
    iexact Hat3
  rw [bigSepL_pair, outAt_eq]
  iintro ⟨HO, Ho, Hat3, Has⟩
  iapply (run_rsDone m K hA Q _ dists hds) $$ [HO Hc0 Hat0]
  · isplitr; · iexact HK
    isplitr; · iexact Hlev
    isplitl [HO]; · iexact HO
    rw [bigSepL_pair]
    isplitl [Hc0]; · iexact Hc0
    iexact Hat0
  rw [bigSepL_pair]
  iintro ⟨HO, Hat0, Hps⟩
  iapply (run_agDone m K Q _ dists hds) $$ [HO Hc2 Hat2]
  · isplitr; · iexact HK
    isplitr; · iexact Hlev
    isplitl [HO]; · iexact HO
    rw [bigSepL_pair]
    isplitl [Hc2]; · iexact Hc2
    iexact Hat2
  rw [bigSepL_pair]
  iintro ⟨HO, Hat2, Hss⟩
  ihave Hp := (blks_join c (part m c)) $$ [Hpc Hps]
  · isplitl [Hpc]; · unfold some'; iexists _; iexact Hpc
    iexact Hps
  ihave Hs := (sum_join m c) $$ [Hs0 Hss]
  · isplitl [Hs0]; · iexact Hs0
    iexact Hss
  ihave Hb := (slots_join bM (View.set_whole cc0_scratch2) c fb) $$ [Hb0 Hbs]
  · isplitl [Hb0]; · iexact Hb0
    iexact Hbs
  ihave Ha := (slots_join aM (View.set_whole cc0_scratch3) c fa) $$ [Ha0 Has]
  · isplitl [Ha0]; · iexact Ha0
    iexact Has
  imod (close_one m (g := barC c)) $$ [HatB] with HzB
  · isplitr; · iapply (records_bar m K c); iexact HK
    iexact HatB
  imod (close_all m K 0 dists hds) $$ [Hat0] with Hz0
  · isplitr; · iexact HK
    iexact Hat0
  imod (close_all m K 1 dists hds) $$ [Hat1] with Hz1
  · isplitr; · iexact HK
    iexact Hat1
  imod (close_all m K 2 dists hds) $$ [Hat2] with Hz2
  · isplitr; · iexact HK
    iexact Hat2
  imod (close_all m K 3 dists hds) $$ [Hat3] with Hz3
  · isplitr; · iexact HK
    iexact Hat3
  rw [wp_ret]; imodintro
  iapply Hk
  unfold Φ₁ scr zeros
  isplitr [HO Hin Ho]
  · isplitl [Hp Hs Hb Ha]
    · isplitl [Hp]; · iexact Hp
      isplitl [Hs]
      · unfold sPts
        rw [show sM.view.set = Finset.univ from View.set_whole cc0_scratch1]
        iexists _; iexact Hs
      isplitl [Hb]; · iexact Hb
      iexact Ha
    isplitl [Hz0 Hz1 Hz2 Hz3]
    · isplitl [Hz0]; · iexact Hz0
      isplitl [Hz1]; · iexact Hz1
      isplitl [Hz2]; · iexact Hz2
      iexact Hz3
    iexact HzB
  isplitl [HO]; · iexact HO
  isplitl [Hin]; · iexact Hin
  iexact Ho

end Cert.Moe

end
-- ==== Proof.Launch.lean ====
/- The launch: the cells made, the tokens dealt around the ring, the run of the whole program. -/
module

public import proofs.«01_k».proof.Proof.Body
public import Idealize.ShloMosaic.Lib.Pipeline.BigSepL
public import Idealize.ShloMosaic.Lib.Ring
public import Idealize.ShloMosaic.Lib.Pipeline.CollectiveSegs

@[expose] public section

set_option maxRecDepth 65536

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (tallyL)

variable {F : FTy → Type} [FloatOps F]

local notation "𝕄" => MT nD τ sig ℕ (Elt F) ℕ UU ℕ

variable (m : (ℓ : Loc nD τ sig) → Buf (Elt F) ℓ)

variable (ρ : Dev nD → PrngReg)

/-! ## The body obligation -/

/-- Argument 0 is fetched at the one point. -/
theorem fetch_0 (t : Fin cfg0.N) : (cfg0.win (0 : Fin 5)).fetch t = true := by rw [fin_N t]; rfl
/-- Argument 1 is fetched at the one point. -/
theorem fetch_1 (t : Fin cfg0.N) : (cfg0.win (1 : Fin 5)).fetch t = true := by rw [fin_N t]; rfl
/-- Argument 2 is fetched at the one point. -/
theorem fetch_2 (t : Fin cfg0.N) : (cfg0.win (2 : Fin 5)).fetch t = true := by rw [fin_N t]; rfl
/-- Argument 3 is fetched at the one point. -/
theorem fetch_3 (t : Fin cfg0.N) : (cfg0.win (3 : Fin 5)).fetch t = true := by rw [fin_N t]; rfl

def bodyPre (c : Dev nD) : sProp 𝕄 :=
  iprop(Φ₀ m c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ (F := F) c ∗ (dats m ρ 0 c).owesAt 0 t₀.succ ∗ stg c cc0_stg0_0 (stgX m c) ∗ stg c cc0_stg1_0 (stgG m c)
    ∗ stg c cc0_stg2_0 (stgI m c) ∗ stg c cc0_stg3_0 (stgE m c) ∗ stg c cc0_stg4_0 (outAt m c))

/-- The body runs from what the launch stages and ends with what the launch writes back. -/
theorem sound_body (c : Dev nD) : bodyPre m ρ c ⊢ runs c
    (cc0_body xM (Memref.isWhole_whole _) gM (Memref.isWhole_whole _) iM (Memref.isWhole_whole _) eM (Memref.isWhole_whole _)
      oM (Memref.isWhole_whole _) pM (Memref.isWhole_whole _) sM (Memref.isWhole_whole _) bM (Memref.isWhole_whole _)
      aM (Memref.isWhole_whole _) cc0_scratch4 cc0_scratch5 cc0_scratch6 cc0_scratch7) (fun _ => bodyPost m ρ c) := by
  rw [body_eq, runs, wp_deviceId]
  unfold bodyPre Φ₀ start
  iintro ⟨⟨⟨⟨%K, Hg⟩, Hcr, Hlev⟩, Hscr⟩, Ho, ⟨%d0, %g0, %hg0, Hx⟩, ⟨%d1, %g1, %hg1, Hw⟩, ⟨%d2, %g2, %hg2, Hi⟩, ⟨%d3, %g3, %hg3, He⟩, ⟨%d4, %g4, %hg4, Hout⟩⟩
  have h0 : g0 = stgX m c := by rw [hg0]; unfold Pipeline.Dat.before; rw [if_pos (fetch_0 t₀)]; rfl
  have h1 : g1 = stgG m c := by rw [hg1]; unfold Pipeline.Dat.before; rw [if_pos (fetch_1 t₀)]; rfl
  have h2 : g2 = stgI m c := by rw [hg2]; unfold Pipeline.Dat.before; rw [if_pos (fetch_2 t₀)]; rfl
  have h3 : g3 = stgE m c := by rw [hg3]; unfold Pipeline.Dat.before; rw [if_pos (fetch_3 t₀)]; rfl
  subst h0 h1 h2 h3
  unfold Pipeline.Dat.owesAt Pipeline.owesWithin
  icases Ho with ⟨%W, %hW, HO⟩
  rw [show (dats m ρ 0 c).owed t₀.castSucc = O₀ c from rfl]
  iapply (run_flat m K (printed_good c) _ g4) $$ [Hg Hcr Hlev Hscr HO Hx Hw Hi He Hout]
  · isplitl [Hg]; · iexact Hg
    isplitl [Hcr]; · iexact Hcr
    isplitl [Hlev]; · iexact Hlev
    isplitl [Hscr]; · iexact Hscr
    isplitl [HO]; · unfold ow; iexists W; iexact HO
    isplitr [Hout]
    · unfold inPts
      isplitl [Hx]; · iexact Hx
      isplitl [Hw]; · iexact Hw
      isplitl [Hi]; · iexact Hi
      iexact He
    unfold oPts; iexact Hout
  unfold ow inPts oPts
  iintro ⟨HP, ⟨%W', HO⟩, ⟨Hx, Hw, Hi, He⟩, Hout⟩
  unfold bodyPost Pipeline.Dat.owesAt Pipeline.owesWithin
  rw [show (dats m ρ 0 c).owed t₀.succ = 0 from rfl]
  isplitl [HP]; · iexact HP
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; · (ipureintro; rfl)
  iexact Hout

/-- The library's body obligation on a core. -/
theorem body_obligation (c : Dev nD) : Pipeline.BodyObligation (dats (F := F) m ρ 0 c) (defs₀ (F := F)) Variants.none 0 Set.univ := fun t => by
  rw [fin_N t]
  rw [bigSep_W0, bigSep_W0]
  simp only [owns_whole_eq]
  refine Entails.trans (Q := bodyPre m ρ c) (Entails.of_eq ?_) ?_
  · rfl
  refine Entails.trans (sound_body m ρ c) (Entails.of_eq ?_)
  unfold runs
  refine congrArg₂ _ ?_ ?_
  · rfl
  · funext _
    unfold bodyPost
    have e0 : (dats m ρ 0 c).after (0 : Fin 5) t₀ = stgX m c := rfl
    have e1 : (dats m ρ 0 c).after (1 : Fin 5) t₀ = stgG m c := rfl
    have e2 : (dats m ρ 0 c).after (2 : Fin 5) t₀ = stgI m c := rfl
    have e3 : (dats m ρ 0 c).after (3 : Fin 5) t₀ = stgE m c := rfl
    have e4 : (dats m ρ 0 c).after (4 : Fin 5) t₀ = outAt m c := by dsimp only [dats]
    have eP : (dats m ρ 0 c).Φ t₀.succ = Φ₁ c := rfl
    rw [e0, e1, e2, e3, e4, eP]

/-! ## The cells, kind by kind -/

/-- The body's own semaphores are apart from the launch's. -/
theorem ownSemFacts : Pipeline.OwnSemFacts cfg0.spec osem := by decide +kernel

/-- Every array is held whole. -/
theorem share_eq (c : Dev nD) (w : Fin cfg0.W) : (dats m ρ 0 c).share w = fullShare := by unfold Pipeline.Dat.share; split <;> rfl

/-- The role of a kind of cell. -/
theorem role_csem (k : Kind) : role (csem k) = (match k with | none => Role.bar | some x => Role.dma x.1 x.2.succ) := by
  rcases k with _ | ⟨k, e⟩
  · rfl
  · exact role_nth k e.succ

/-- Distinct devices and kinds name distinct semaphores. -/
theorem kcell_injective : Function.Injective (kcell : Dev nD × Kind → GSem nD τ sig) := by
  rintro ⟨c, k⟩ ⟨c', k'⟩ h
  have h1 : c = c' := congrArg (fun g : GSem nD τ sig => g.1.1) h
  subst h1
  have h2 : role (csem k) = role (csem k') := congrArg (fun g : GSem nD τ sig => role g.2) h
  rw [role_csem, role_csem] at h2
  rcases k with _ | ⟨k, e⟩ <;> rcases k' with _ | ⟨k', e'⟩
  · rfl
  · cases h2
  · cases h2
  · injection h2 with h3 h4
    dsimp only at h3 h4
    rw [h3, Fin.succ_injective _ h4]

def ringCells : Finset (GSem nD τ sig) := Finset.univ.map ⟨kcell, kcell_injective⟩

/-- The four arrays at the fifteen distances. -/
theorem bigSep_arrays (Φ : Fin 4 × Fin 15 → sProp 𝕄) (Ψ : Fin 4 → Fin 16 → sProp 𝕄) (h : ∀ k e, Φ (k, e) = Ψ k e.succ) :
    bigSep Finset.univ Φ = iprop(bigSepL dists (Ψ 0) ∗ bigSepL dists (Ψ 1) ∗ bigSepL dists (Ψ 2) ∗ bigSepL dists (Ψ 3)) := by
  rw [bigSep_univ_prod, bigSep_univ_eq_bigSepL [0, 1, 2, 3] (by decide) (by decide)]
  simp only [bigSepL_cons_cons, bigSepL_singleton, bigSepL_succ, h]
  rfl

/-- All the kinds of cells of a device. -/
theorem bigSep_kinds (c : Dev nD) (Φ : GSem nD τ sig → sProp 𝕄) : (bigSep Finset.univ fun k : Kind => Φ (kcell (c, k)))
    = iprop(Φ (barC c) ∗ (bigSepL dists fun d => Φ (dmaC 0 d c)) ∗ (bigSepL dists fun d => Φ (dmaC 1 d c))
      ∗ (bigSepL dists fun d => Φ (dmaC 2 d c)) ∗ (bigSepL dists fun d => Φ (dmaC 3 d c))) := by
  rw [bigSep_univ_at _ (none : Kind), show (Finset.univ.erase (none : Kind)) = Finset.univ.map ⟨some, Option.some_injective _⟩ from by decide +kernel,
    bigSep_map, bigSep_arrays _ (fun k d => Φ (dmaC k d c)) fun _ _ => rfl]

/-! ## The tokens -/

/-- A duty token as minted: of the barrier at a distance, or of an array's cell. -/
abbrev Tok : Type := Fin 15 ⊕ (Fin 4 × Fin 15)
def tokOf (cj : Dev nD × Tok) : GSem nD τ sig × ℕ × Fin 16 := match cj.2 with
  | .inl e => (barC cj.1, 0, e.succ)
  | .inr x => (dmaC x.1 x.2.succ cj.1, 0, 0)

/-- Distinct duties have distinct tokens. -/
theorem tokOf_injective : Function.Injective tokOf := by
  rintro ⟨c, j⟩ ⟨c', j'⟩ h
  have hr : role (tokOf (c, j)).1.2 = role (tokOf (c', j')).1.2 := by rw [h]
  rcases j with e | ⟨k, e⟩ <;> rcases j' with e' | ⟨k', e'⟩
  · have h1 : c = c' := congrArg (fun x : GSem nD τ sig × ℕ × Fin 16 => x.1.1.1) h
    have h2 : e.succ = e'.succ := congrArg (fun x : GSem nD τ sig × ℕ × Fin 16 => x.2.2) h
    rw [h1, Fin.succ_injective _ h2]
  · rw [show role (tokOf (c', Sum.inr (k', e'))).1.2 = Role.dma k' e'.succ from role_nth _ _] at hr; cases hr
  · rw [show role (tokOf (c, Sum.inr (k, e))).1.2 = Role.dma k e.succ from role_nth _ _] at hr; cases hr
  · have h1 : c = c' := congrArg (fun x : GSem nD τ sig × ℕ × Fin 16 => x.1.1.1) h
    rw [show role (tokOf (c, Sum.inr (k, e))).1.2 = Role.dma k e.succ from role_nth _ _,
      show role (tokOf (c', Sum.inr (k', e'))).1.2 = Role.dma k' e'.succ from role_nth _ _] at hr
    injection hr with h3 h4
    rw [h1, h3, Fin.succ_injective _ h4]

def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-- The tokens of a device's own cells, and those of the duties it pays. -/
def toks (c : Dev nD) : sProp 𝕄 :=
  iprop((bigSepL dists fun d => dutyTok ER (barC c) 0 d) ∗ (bigSepL dists fun d => dutyTok ER (dmaC 0 d c) 0 0) ∗ (bigSepL dists fun d => dutyTok ER (dmaC 1 d c) 0 0)
    ∗ (bigSepL dists fun d => dutyTok ER (dmaC 2 d c) 0 0) ∗ (bigSepL dists fun d => dutyTok ER (dmaC 3 d c) 0 0))
def payToks (c : Dev nD) : sProp 𝕄 :=
  iprop((bigSepL dists fun d => dutyTok ER (barC (up d c)) 0 d) ∗ (bigSepL dists fun d => dutyTok ER (dmaC 0 d c) 0 0) ∗ (bigSepL dists fun d => dutyTok ER (dmaC 1 d (up d c)) 0 0)
    ∗ (bigSepL dists fun d => dutyTok ER (dmaC 2 d c) 0 0) ∗ (bigSepL dists fun d => dutyTok ER (dmaC 3 d (up d c)) 0 0))

/-- The ring turned by a distance. -/
def turn (d : Fin 16) : Dev nD ≃ Dev nD := ⟨up d, dn d, dn_up d, up_dn d⟩

/-- Going round the ring by each distance reindexes what every device holds. -/
theorem bigSep_turn (Φ : Fin 16 → Dev nD → sProp 𝕄) :
    (bigSep Finset.univ fun c : Dev nD => bigSepL dists fun d => Φ d c) = bigSep Finset.univ fun c : Dev nD => bigSepL dists fun d => Φ d (up d c) := by
  have sw (Ψ : Fin 16 → Dev nD → sProp 𝕄) : (bigSep Finset.univ fun c : Dev nD => bigSepL dists fun d => Ψ d c)
      = bigSep Finset.univ fun e : Fin 15 => bigSep Finset.univ fun c : Dev nD => Ψ e.succ c := by
    simp only [bigSepL_succ]
    rw [← bigSep_univ_prod (fun x : Dev nD × Fin 15 => Ψ x.2.succ x.1), ← bigSep_univ_prod (fun x : Fin 15 × Dev nD => Ψ x.1.succ x.2)]
    exact bigSep_univ_equiv (Equiv.prodComm (Fin 15) (Dev nD)) _
  rw [sw, sw fun d c => Φ d (up d c)]
  exact bigSep_congr fun e _ => bigSep_univ_equiv (turn e.succ) _

/-- The tokens of every device's semaphores, dealt round the ring, are each device's tokens to pay with. -/
theorem toks_around : (bigSep Finset.univ fun c : Dev nD => (toks c : sProp 𝕄)) ⊢ bigSep Finset.univ fun c : Dev nD => payToks c := by
  unfold toks payToks
  simp only [bigSep_sep']
  rw [bigSep_turn fun d c => dutyTok ER (barC c) 0 d, bigSep_turn fun d c => dutyTok ER (dmaC 1 d c) 0 0, bigSep_turn fun d c => dutyTok ER (dmaC 3 d c) 0 0]

/-! ## The cells made -/

/-- What the launch element deals a device, and what the global step makes of it. -/
def G (c : Dev nD) : sProp 𝕄 :=
  iprop((bigSep Finset.univ fun k : Kind => roundState ER (sched m) (kcell (c, k)) 0)
    ∗ (bigSep Finset.univ fun k : Kind => iprop(atPos ER (kcell (c, k)) 0 ∅ 0 ∗ reached ER (kcell (c, k)) 0)) ∗ toks c)
def G' (c : Dev nD) : sProp 𝕄 := iprop(∃ K, ghost m K c)

/-- The initial ghost state funds every device's semaphores. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kind => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_arrays _ (fun k d => (dutyTok ER (dmaC k d c) 0 0 : sProp 𝕄)) fun _ _ => rfl, bigSepL_succ fun d => dutyTok ER (barC c) 0 d]
    rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The body's own semaphores at launch are all at zero. -/
theorem ownSems0_eq (c : Dev nD) : (Pipeline.ownSems0 (Ix := ℕ) (Name := ℕ) (U := UU) (Lvl := ℕ) (Val := Elt F) (τ := τ) osem c : sProp 𝕄) = zeros c := by
  unfold Pipeline.ownSems0 zeros
  exact bigSep_arrays _ (fun k d => semVal (dmaC k d c) 0) fun _ _ => rfl
/-- The barrier semaphore at launch is at zero. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- Each device's semaphores become recorded cells of the schedule. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (sched m) κ (kcell (c, k))))
          ∗ (bigSep Finset.univ fun k : Kind => iprop(atPos ER (kcell (c, k)) 0 ∅ 0 ∗ reached ER (kcell (c, k)) 0)) ∗ toks c) := by
  rw [ownSems0_eq, unscopedSems0_eq]
  unfold G
  iintro ⟨Hos, Hus, Hst, Hat, Htok⟩
  imod (show iprop((bigSep Finset.univ fun k : Kind => semVal (kcell (c, k)) 0) ∗ bigSep Finset.univ fun k : Kind => roundState ER (sched m) (kcell (c, k)) 0)
      ⊢ (|={Set.univ}=> bigSep Finset.univ fun k : Kind => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hos Hus Hst] with Hinv
  · isplitl [Hos Hus]
    · rw [bigSep_kinds c fun g => semVal g 0]
      unfold zeros
      isplitl [Hus] <;> iassumption
    iexact Hst
  imodintro
  isplitl [Hinv]; · iexact Hinv
  isplitl [Hat]; · iexact Hat
  iexact Htok

/-- A device's positions, and the tokens of the duties it pays. -/
def linear (c : Dev nD) : sProp 𝕄 := iprop((bigSep Finset.univ fun k : Kind => atPos ER (kcell (c, k)) 0 ∅ 0) ∗ payToks c)

/-- The records and a device's own part make its ghost state. -/
theorem ghost_intro (K : Dev nD × Kind → ℕ) (c : Dev nD) : iprop(records m K ∗ linear c) ⊢ G' m c := by
  unfold linear payToks G' ghost
  rw [bigSep_kinds c fun g => atPos ER g 0 ∅ 0]
  iintro ⟨HK, Hat, Ht⟩
  iexists K
  isplitl [HK]; · iexact HK
  isplitl [Hat]; · iexact Hat
  iexact Ht

/-- A persistent fact may be handed to every member of a separating product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The allocated pieces of all devices regroup into one ghost state per device. -/
theorem regroup :
    (bigSep Finset.univ fun c : Dev nD => iprop((bigSep Finset.univ fun k : Kind => iprop(∃ κ : ℕ, cellInv ER (sched m) κ (kcell (c, k))))
          ∗ (bigSep Finset.univ fun k : Kind => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Kind => iprop(∃ κ : ℕ, cellInv ER (sched m) κ (kcell ck))),
    bigSep_congr (s := Finset.univ) (fun (c : Dev nD) _ => bigSep_sep' Finset.univ (fun k : Kind => (atPos ER (kcell (c, k)) 0 ∅ 0 : sProp 𝕄)) (fun k => reached ER (kcell (c, k)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (sched m) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · unfold linear
    rw [bigSep_sep']
    isplitl [Hat]; · iexact Hat
    iexact Htk

/-- The global step: own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Payments at a list of distances, each to the device at its distance, are credits at this device's cells. -/
theorem cred_dists (sm : Fin 16 → SemLoc sig) (i n : ℕ) (c : Dev nD) (ds : List (Fin 16)) :
    (Pipeline.launchCred (fun c' : Dev nD => tallyL (ds.map fun d => (((up d c' : Thread nD τ), sm d), i, n))) c : sProp 𝕄)
      ⊢ bigSepL ds fun d => cred (tallyAt ((c : Thread nD τ), sm d) i n) := by
  induction ds with
  | nil =>
    rw [bigSepL_nil]
    exact Entails.of_eq (Pipeline.launchCred_zero c)
  | cons d ds ih =>
    rw [bigSepL_cons', show (fun c' : Dev nD => tallyL ((d :: ds).map fun d => (((up d c' : Thread nD τ), sm d), i, n)))
      = fun c' => tallyAt ((up d c' : Thread nD τ), sm d) i n + tallyL (ds.map fun d => (((up d c' : Thread nD τ), sm d), i, n)) from rfl, Pipeline.launchCred_add]
    exact BI.sep_mono (Pipeline.launchCred_tallyAt (sm d) (up d) (dn d) (up_dn d) (dn_up d) i n c) ih

/-- Units at one cell add up. -/
theorem cred_units (g : GSem nD τ sig) (i : ℕ) (ds : List (Fin 16)) :
    (bigSepL ds fun _ => (cred (tallyAt g i 1) : sProp 𝕄)) ⊢ cred (tallyAt g i ds.length) := by
  induction ds with
  | nil => rw [bigSepL_nil, List.length_nil, tallyAt_zero, cred_zero]; exact BI.Entails.refl _
  | cons d ds ih =>
    rw [bigSepL_cons', List.length_cons, Nat.add_comm, ← tallyAt_add]
    exact (sep_mono_right ih).trans (cred_add _ _).2

/-- The launch's credits are those the body waits on. -/
theorem launch_creds (c : Dev nD) : (Pipeline.launchCred O₀ c : sProp 𝕄) ⊢ creds (F := F) c := by
  unfold creds
  rw [show (O₀ : Dev nD → CellTallies nD τ sig ℕ) = fun c' => tallyL (barDue c' dists) + (tallyL (dmaDue 1 2 c' dists) + tallyL (dmaDue 3 3 c' dists)) from rfl,
    Pipeline.launchCred_add, Pipeline.launchCred_add]
  exact BI.sep_mono ((cred_dists (fun _ => .reg barS) 1 1 c dists).trans (cred_units (barC c) 1 dists))
    (BI.sep_mono (cred_dists (fun d => .dma (nth (arr 1) d)) 2 N c dists) (cred_dists (fun d => .dma (nth (arr 3) d)) 3 N c dists))

/-! ## The theorem's side conditions -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

/-- The launch establishes the body's entry condition. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- The body's exit condition returns what the launch must collect. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, Hz, HzB⟩
  isplitl [HzB]; · iexact HzB
  isplitl [Hz]; · iexact Hz
  iexact Hr

/-- The launch's own waits are below everything owed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait (by decide : 0 < 1) (by decide) c _ (over1 c dists)
    · exact mayWait (by decide : 0 < 1) (by decide) c _ (Over.zero 1)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution on the sixteen devices ends,
    the inputs unchanged, each device's result at its computed contents, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := SiteBlocks.hL 4) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/- The frames of the kernel and of its ideal program, from the one run. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option maxRecDepth 65536

noncomputable section

namespace Cert.Moe

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The four argument arrays after the run hold what they held. -/
theorem final_arg (w : Fin 5) (hw : w.val < 4) (c : Dev nD) : finalA m ρ c w = (s₀ m ρ).mem ((cfg0.win w).arr.view.loc (c : Thread nD τ)) :=
  (dats m ρ 0 c).arrAt_in w (by fin_cases w <;> first | rfl | exact absurd hw (by decide)) _

/-- The arguments unchanged, in the claims' words. -/
theorem args_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans (final_arg m ρ 0 (by decide) c), (h c (1 : Fin 5)).trans (final_arg m ρ 1 (by decide) c),
    (h c (2 : Fin 5)).trans (final_arg m ρ 2 (by decide) c), (h c (3 : Fin 5)).trans (final_arg m ρ 3 (by decide) c)⟩

/-- The two programs have the same body tables. -/
theorem bodies_eq : Cert.Kernel.defs₀ (F := F) = Cert.KernelIdeal.defs₀ := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))
/-- The two programs have the same definitions. -/
theorem defs_eq : Cert.Kernel.defs (F := F) = Cert.KernelIdeal.defs := by
  unfold Cert.Kernel.defs Cert.KernelIdeal.defs
  rw [show Cert.Kernel.defs₀ (F := F) = Cert.KernelIdeal.defs₀ from bodies_eq]
  rfl

/-- The kernel at its floats' bits runs, leaves its arguments unchanged and every counter at zero. -/
theorem frame_kernel : Cert.quiescent_Kernel := fun m ρ _ => by
  rw [defs_eq]
  exact (θ_run Cert.KernelIdeal.defs _ _).mono (fun _ h => ⟨args_kept m ρ h.1, h.2⟩) (run_main (F := Bits) m ρ)

/-- So does the ideal program. -/
theorem frame_ideal : Cert.quiescent_KernelIdeal := fun m ρ _ =>
  (θ_run Cert.KernelIdeal.defs _ _).mono (fun _ h => ⟨args_kept m ρ h.1, h.2⟩) (run_main (F := Ideal) m ρ)

/-- The reference runs, leaves its arguments unchanged and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Math.lean ====
/-
  The mixture's arithmetic over the extended reals, free of either program: the router's scores and probabilities, the
  chosen pair of weights, and how a gate distributes over a token's product with an expert's matrix.
-/
module

public import Idealize.ShloMosaic.PureOps.Ideal
public import Idealize.ShloMosaic.PureOps.Ideal.Laws
public import Idealize.ShloMosaic.Lib.Pointwise

@[expose] public section

set_option maxRecDepth 65536

noncomputable section

namespace Cert.Moe

open Idealize.ShloMosaic

/-- An extended real that is a real number. -/
def IsReal (z : EReal) : Prop := ∃ r : ℝ, z = (r : EReal)

/-- An extended real that is a positive real number. -/
def IsPos (z : EReal) : Prop := ∃ r : ℝ, 0 < r ∧ z = (r : EReal)

/-- A number above negative infinity and below positive infinity is real. -/
theorem isReal_of {z : EReal} (h : ⊥ < z) (h' : z < ⊤) : IsReal z :=
  ⟨z.toReal, (EReal.coe_toReal h'.ne h.ne').symm⟩

/-- A number whose magnitude is below positive infinity is real. -/
theorem isReal_of_abs {z : EReal} (h : max z (-z) < ⊤) : IsReal z := by
  refine isReal_of ?_ ((le_max_left _ _).trans_lt h)
  rcases eq_or_ne z ⊥ with e | e
  · subst e
    simp at h
  · exact bot_lt_iff_ne_bot.2 e

/-- A product of reals is real. -/
theorem IsReal.mul {a b : EReal} : IsReal a → IsReal b → IsReal (a * b) := by
  rintro ⟨r, rfl⟩ ⟨s, rfl⟩
  exact ⟨r * s, (EReal.coe_mul r s).symm⟩

/-- A difference of reals is real. -/
theorem IsReal.sub {a b : EReal} : IsReal a → IsReal b → IsReal (a - b) := by
  rintro ⟨r, rfl⟩ ⟨s, rfl⟩
  exact ⟨r - s, (EReal.coe_sub r s).symm⟩

/-- A finite sum of reals is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨r, hr⟩ := h a
    obtain ⟨t, ht⟩ := ih
    exact ⟨r + t, by rw [Finset.sum_insert ha, hr, ht, EReal.coe_add]⟩

/-- A sum of positive reals is a positive real. -/
theorem IsPos.add {a b : EReal} : IsPos a → IsPos b → IsPos (a + b) := by
  rintro ⟨r, hr, rfl⟩ ⟨s, hs, rfl⟩
  exact ⟨r + s, by positivity, (EReal.coe_add r s).symm⟩

/-- A sum of positive reals over a nonempty range is a positive real. -/
theorem IsPos.sum {n : ℕ} (f : Fin (n + 1) → EReal) (h : ∀ i, IsPos (f i)) : IsPos (∑ i, f i) := by
  induction n with
  | zero => simpa using h 0
  | succ n ih =>
    rw [Fin.sum_univ_succ]
    exact (h 0).add (ih _ fun i => h _)

/-- The exponential of a real is a positive real. -/
theorem IsReal.exp {a : EReal} : IsReal a → IsPos (Ideal.exp a) := by
  rintro ⟨r, rfl⟩
  exact ⟨Real.exp r, Real.exp_pos r, rfl⟩

/-- The quotient of positive reals is a positive real. -/
theorem IsPos.div {a b : EReal} : IsPos a → IsPos b → IsPos (Ideal.div a b) := by
  rintro ⟨r, hr, rfl⟩ ⟨s, hs, rfl⟩
  refine ⟨r * s⁻¹, by positivity, ?_⟩
  unfold Ideal.div
  rw [if_neg (by simpa using hs.ne'), EReal.coe_mul, EReal.coe_inv]

/-- A positive real is not negative. -/
theorem IsPos.nonneg {a : EReal} : IsPos a → 0 ≤ a := by
  rintro ⟨r, hr, rfl⟩
  exact_mod_cast hr.le

/-- A positive real is finite. -/
theorem IsPos.ne_top {a : EReal} : IsPos a → a ≠ ⊤ := by
  rintro ⟨r, hr, rfl⟩
  exact EReal.coe_ne_top r

/-- The largest of finitely many reals, started from negative infinity, is real. -/
theorem isReal_fold {n : ℕ} (f : Fin (n + 1) → EReal) (h : ∀ i, IsReal (f i)) :
    IsReal (Finset.univ.fold max ⊥ f) := by
  refine isReal_of ?_ ?_
  · refine (Finset.lt_fold_max ⊥).2 (Or.inr ⟨0, Finset.mem_univ _, ?_⟩)
    obtain ⟨r, hr⟩ := h 0
    rw [hr]
    exact EReal.bot_lt_coe r
  · refine (Finset.fold_max_lt ⊤).2 ⟨bot_lt_top, fun i _ => ?_⟩
    obtain ⟨r, hr⟩ := h i
    rw [hr]
    exact EReal.coe_lt_top r

/-- The pattern of negative infinity reads as negative infinity. -/
theorem ofBits_neg_inf : Ideal.ofBits .f32 0xFF800000#32 = ⊥ := by simp [Ideal.ofBits, Ideal.ieee]

/-- The 16-bit pattern of positive infinity reads as positive infinity. -/
theorem ofBits_pos_inf : Ideal.ofBits .bf16 0x7F80#16 = ⊤ := by simp [Ideal.ofBits, Ideal.ieee]

/-- The router's score of expert `e` for the token in row `r`. -/
def score (x : Vec Ideal ⟨2, ![512, 256]⟩ .bf16) (g : Vec Ideal ⟨2, ![256, 64]⟩ .bf16) (r : Fin 512) (e : Fin 64) : EReal :=
  ∑ d, x (ix2 r d) * g (ix2 d e)

/-- The token's largest score. -/
def peak (x : Vec Ideal ⟨2, ![512, 256]⟩ .bf16) (g : Vec Ideal ⟨2, ![256, 64]⟩ .bf16) (r : Fin 512) : EReal :=
  Finset.univ.fold max (Ideal.ofBits .f32 0xFF800000#32) fun e => score x g r e

/-- The router's probability of expert `e`: the exponential of its score below the largest, over the sum of all. -/
def prob (x : Vec Ideal ⟨2, ![512, 256]⟩ .bf16) (g : Vec Ideal ⟨2, ![256, 64]⟩ .bf16) (r : Fin 512) (e : Fin 64) : EReal :=
  Ideal.div (Ideal.exp (score x g r e - peak x g r)) (∑ e', Ideal.exp (score x g r e' - peak x g r))

/-- With real tokens and router weights every probability is a positive real. -/
theorem prob_pos (x : Vec Ideal ⟨2, ![512, 256]⟩ .bf16) (g : Vec Ideal ⟨2, ![256, 64]⟩ .bf16) (hx : ∀ j, IsReal (x j)) (hg : ∀ j, IsReal (g j))
    (r : Fin 512) (e : Fin 64) : IsPos (prob x g r e) := by
  have hs : ∀ e, IsReal (score x g r e) := fun e => IsReal.sum _ _ fun d => (hx _).mul (hg _)
  have hp : IsReal (peak x g r) := by
    unfold peak
    rw [ofBits_neg_inf]
    exact isReal_fold _ hs
  have he : ∀ e, IsPos (Ideal.exp (score x g r e - peak x g r)) := fun e => ((hs e).sub hp).exp
  exact (he e).div (IsPos.sum _ he)

/-- The expert an index word names. -/
def named (w : BitVec 32) : Fin 64 := ⟨w.toNat % 64, Nat.mod_lt _ (by norm_num)⟩

/-- The weight of the token's choice `k` of two: that expert's probability over the sum of both. -/
def weight (x : Vec Ideal ⟨2, ![512, 256]⟩ .bf16) (g : Vec Ideal ⟨2, ![256, 64]⟩ .bf16) (i : IVec ⟨2, ![512, 2]⟩ 32) (r : Fin 512) (k : Fin 2) : EReal :=
  Ideal.div (prob x g r (named (i (ix2 r k)))) (prob x g r (named (i (ix2 r 0))) + prob x g r (named (i (ix2 r 1))))

/-- With real tokens and router weights both weights are positive reals. -/
theorem weight_pos (x : Vec Ideal ⟨2, ![512, 256]⟩ .bf16) (g : Vec Ideal ⟨2, ![256, 64]⟩ .bf16) (i : IVec ⟨2, ![512, 2]⟩ 32)
    (hx : ∀ j, IsReal (x j)) (hg : ∀ j, IsReal (g j)) (r : Fin 512) (k : Fin 2) : IsPos (weight x g i r k) :=
  (prob_pos x g hx hg r _).div ((prob_pos x g hx hg r _).add (prob_pos x g hx hg r _))

/-- A nonnegative finite factor distributes over a finite sum. -/
theorem scale_sum {ι : Type} (s : Finset ι) (a : EReal) (h : 0 ≤ a) (h' : a ≠ ⊤) (f : ι → EReal) : ∑ i ∈ s, a * f i = a * ∑ i ∈ s, f i := by
  classical
  induction s using Finset.induction_on with
  | empty => simp
  | insert b s hb ih => rw [Finset.sum_insert hb, Finset.sum_insert hb, ih, EReal.left_distrib_of_nonneg_of_ne_top h h']

/-- The sum of two nonnegative gates, applied to the entries of one factor, is the sum of each gate times the whole product. -/
theorem gate_sum {ι : Type} (s : Finset ι) (a b : EReal) (ha : 0 ≤ a) (ha' : a ≠ ⊤) (hb : 0 ≤ b) (hb' : b ≠ ⊤) (x w : ι → EReal) :
    ∑ d ∈ s, x d * (a + b) * w d = a * (∑ d ∈ s, x d * w d) + b * ∑ d ∈ s, x d * w d := by
  rw [← scale_sum s a ha ha', ← scale_sum s b hb hb', ← Finset.sum_add_distrib]
  refine Finset.sum_congr rfl fun d _ => ?_
  rw [mul_comm (x d), mul_assoc, EReal.right_distrib_of_nonneg ha hb]

/-- Over all 64 experts, the gated products of a token that chose `e₀` and `e₁` come to its two weighted products. -/
theorem experts_sum (a b : EReal) (ha : 0 ≤ a) (ha' : a ≠ ⊤) (hb : 0 ≤ b) (hb' : b ≠ ⊤) (e₀ e₁ : Fin 64) (x : Fin 256 → EReal) (w : Fin 64 → Fin 256 → EReal) :
    ∑ e, ∑ d, x d * ((if e₀ = e then a else 0) + (if e₁ = e then b else 0)) * w e d
      = a * (∑ d, x d * w e₀ d) + b * ∑ d, x d * w e₁ d := by
  have h : ∀ e, ∑ d, x d * ((if e₀ = e then a else 0) + (if e₁ = e then b else 0)) * w e d
      = (if e₀ = e then a * (∑ d, x d * w e d) else 0) + (if e₁ = e then b * (∑ d, x d * w e d) else 0) := by
    intro e
    rw [gate_sum _ _ _ (by split <;> simp [ha]) (by split <;> simp [ha']) (by split <;> simp [hb]) (by split <;> simp [hb'])]
    simp only [ite_mul, zero_mul]
  rw [Finset.sum_congr rfl fun e _ => h e, Finset.sum_add_distrib, Finset.sum_ite_eq, Finset.sum_ite_eq]
  simp

/-- Sixteen blocks of four experts are the 64 experts. -/
theorem sum_blocks (f : Fin 64 → EReal) (k : Fin 16 → Fin 4 → Fin 64) (hk : ∀ c j, (k c j).val = 4 * c.val + j.val) :
    ∑ c, ∑ j, f (k c j) = ∑ e, f e := by
  rw [← Finset.sum_product', Finset.univ_product_univ]
  refine Fintype.sum_equiv (finProdFinEquiv (m := 16) (n := 4)) _ _ fun p => congrArg f (Fin.ext ?_)
  rw [hk]
  show 4 * p.1.val + p.2.val = p.2.val + 4 * p.1.val
  omega

end Cert.Moe

end
-- ==== Proof.PartValue.lean ====
/-
  What one device contributes, at one entry: over its four experts, the gated product of the token with the expert's matrix.
-/
module

public import proofs.«01_k».proof.Proof.Pieces
public import proofs.«01_k».proof.Proof.Math
public import Idealize.ShloMosaic.Lib.Pointwise
public import Idealize.ShloMosaic.Lib.WordCmp

@[expose] public section

set_option maxRecDepth 65536

noncomputable section

namespace Cert.Moe

open Cert.KernelIdeal Cert.KernelIdeal.Gen Idealize.ShloMosaic Idealize.ShloMosaic.TcCoe

/-- A word compared with an expert's number picks that expert's gate exactly when the word names it. -/
theorem gate_word (w v : BitVec 32) (e : Fin 64) (h : w.toNat < 64) (hv : v.toNat = e.val) (a : EReal) :
    Scalar.select (IntOp.cmpi .eq w v) a 0 = if named w = e then a else 0 := by
  rw [WordCmp.cmpi_eq_eq_toNat, WordCmp.select_decide]
  refine if_congr ?_ rfl rfl
  rw [hv, Fin.ext_iff]
  show _ ↔ w.toNat % 64 = e.val
  rw [Nat.mod_eq_of_lt h]

/-- Summing a row's probabilities against the one-hot of an index word leaves the probability the word names. -/
theorem onehot_sum (w : BitVec 32) (h : w.toNat < 64) (p : Fin 64 → EReal) :
    ∑ e, Scalar.select (IntOp.cmpi .eq (BitVec.ofNat 32 e.val) w) (p e) 0 = p (named w) := by
  have he : ∀ e : Fin 64, Scalar.select (IntOp.cmpi .eq (BitVec.ofNat 32 e.val) w) (p e) 0 = if named w = e then p e else 0 := by
    intro e
    have := e.isLt
    rw [WordCmp.cmpi_eq_eq_toNat, WordCmp.select_decide]
    refine if_congr ?_ rfl rfl
    rw [BitVec.toNat_ofNat, Nat.mod_eq_of_lt (by omega), Fin.ext_iff]
    show _ ↔ w.toNat % 64 = e.val
    rw [Nat.mod_eq_of_lt h]
    exact eq_comm
  rw [Finset.sum_congr rfl fun e _ => he e]
  simp

/-- The kernel's probabilities are the router's. -/
theorem pay2_apply (x : Vec Ideal S512x256 .bf16) (g : Vec Ideal S256x64 .bf16) (r : Fin 512) (e : Fin 64) :
    k0_pay2 x g (ix2 r e) = prob x g r e := by
  unfold k0_pay2 k0_pay1 prob peak score
  pointwise

/-- The kernel's first column is the first index of each row. -/
theorem pay3_apply (i : Vec Ideal S512x2 .i32) (r : Fin 512) : k0_pay3 i (ix2 r 0) = i (ix2 r 0) := by
  unfold k0_pay3
  pointwise

/-- The kernel's second column is the second index of each row. -/
theorem pay4_apply (i : Vec Ideal S512x2 .i32) (r : Fin 512) : k0_pay4 i (ix2 r 0) = i (ix2 r 1) := by
  unfold k0_pay4
  pointwise

/-- The kernel's first probability is that of the token's first choice. -/
theorem pay5_apply (x : Vec Ideal S512x256 .bf16) (g : Vec Ideal S256x64 .bf16) (i : Vec Ideal S512x2 .i32) (r : Fin 512)
    (h : (i (ix2 r 0)).toNat < 64) : k0_pay5 x g i (ix2 r 0) = prob x g r (named (i (ix2 r 0))) := by
  rw [← onehot_sum _ h (prob x g r)]
  unfold k0_pay5 k0_pay3
  pointwise
  simp only [pay2_apply]

/-- The kernel's second probability is that of the token's second choice. -/
theorem pay6_apply (x : Vec Ideal S512x256 .bf16) (g : Vec Ideal S256x64 .bf16) (i : Vec Ideal S512x2 .i32) (r : Fin 512)
    (h : (i (ix2 r 1)).toNat < 64) : k0_pay6 x g i (ix2 r 0) = prob x g r (named (i (ix2 r 1))) := by
  rw [← onehot_sum _ h (prob x g r)]
  unfold k0_pay6 k0_pay4
  pointwise
  simp only [pay2_apply]

/-- The kernel's sum of probabilities is that of the two chosen ones. -/
theorem pay7_apply (x : Vec Ideal S512x256 .bf16) (g : Vec Ideal S256x64 .bf16) (i : Vec Ideal S512x2 .i32) (r : Fin 512)
    (h : ∀ j, (i j).toNat < 64) : k0_pay7 x g i i (ix2 r 0) = prob x g r (named (i (ix2 r 0))) + prob x g r (named (i (ix2 r 1))) := by
  show k0_pay5 x g i (ix2 r 0) + k0_pay6 x g i (ix2 r 0) = _
  rw [pay5_apply _ _ _ _ (h _), pay6_apply _ _ _ _ (h _)]

/-- The kernel's first gate weight is the weight of the token's first choice. -/
theorem pay8_apply (x : Vec Ideal S512x256 .bf16) (g : Vec Ideal S256x64 .bf16) (i : Vec Ideal S512x2 .i32) (r : Fin 512)
    (h : ∀ j, (i j).toNat < 64) : k0_pay8 x g i i (ix2 r 0) = weight x g i r 0 := by
  show Ideal.div (k0_pay5 x g i (ix2 r 0)) (k0_pay7 x g i i (ix2 r 0)) = _
  rw [pay5_apply _ _ _ _ (h _), pay7_apply _ _ _ _ h]
  rfl

/-- The kernel's second gate weight is the weight of the token's second choice. -/
theorem pay9_apply (x : Vec Ideal S512x256 .bf16) (g : Vec Ideal S256x64 .bf16) (i : Vec Ideal S512x2 .i32) (r : Fin 512)
    (h : ∀ j, (i j).toNat < 64) : k0_pay9 (k0_pay6 x g i) (k0_pay7 x g i i) (ix2 r 0) = weight x g i r 1 := by
  show Ideal.div (k0_pay6 x g i (ix2 r 0)) (k0_pay7 x g i i (ix2 r 0)) = _
  rw [pay6_apply _ _ _ _ (h _), pay7_apply _ _ _ _ h]
  rfl

/-- The gated product of the token in row `r` with column `o` of one expert's matrix: the gate is the weight of each choice that names the expert. -/
def gated (x : Vec Ideal S512x256 .bf16) (g : Vec Ideal S256x64 .bf16) (i : IVec S512x2 32) (r : Fin 512) (e : Fin 64) (w : Fin 256 → EReal) : EReal :=
  ∑ d, x (ix2 r d) * ((if named (i (ix2 r 0)) = e then weight x g i r 0 else 0) + (if named (i (ix2 r 1)) = e then weight x g i r 1 else 0)) * w d

/-- Expert `j` of the device whose number is the word `v`. -/
def expertOf (v : BitVec 32) (hv : v.toNat < 16) (j : Fin 4) : Fin 64 := ⟨4 * v.toNat + j.val, by omega⟩

/-- The word the kernel compares with is the expert's number. -/
theorem expertWord (v : BitVec 32) (hv : v.toNat < 16) (j : Fin 4) :
    (Scalar.addi (Scalar.muli v 4#32) (BitVec.ofNat 32 j.val)).toNat = (expertOf v hv j).val := by
  have := j.isLt
  show (v * 4#32 + BitVec.ofNat 32 j.val).toNat = 4 * v.toNat + j.val
  rw [BitVec.toNat_add, BitVec.toNat_mul, BitVec.toNat_ofNat, BitVec.toNat_ofNat]
  omega

/-- A device's contribution at one entry is the sum of its four experts' gated products. -/
theorem contrib_apply (v : BitVec 32) (hv : v.toNat < 16) (x : Vec Ideal S512x256 .bf16) (g : Vec Ideal S256x64 .bf16) (i : Vec Ideal S512x2 .i32)
    (w : Fin 4 → Vec Ideal S1x256x512 .bf16) (h : ∀ j, (i j).toNat < 64) (r o : Fin 512) :
    contrib v x g i i (w 0) (w 1) (w 2) (w 3) (ix2 r o) = ∑ j, gated x g i r (expertOf v hv j) fun d => w j (ix3 0 d o) := by
  rw [Fin.sum_univ_four]
  unfold contrib k0_pay11 k0_pay10 k0_pay1
  pointwise
  simp only [pay3_apply, pay4_apply, pay8_apply _ _ _ _ h, pay9_apply _ _ _ _ h]
  have k : ∀ (j : Fin 4) (u : BitVec 32), u = Scalar.addi (Scalar.muli v 4#32) (BitVec.ofNat 32 j.val) →
      ∑ d, x (ix2 r d) * (Scalar.select (IntOp.cmpi .eq (i (ix2 r 0)) u) (weight x g i r 0) 0
        + Scalar.select (IntOp.cmpi .eq (i (ix2 r 1)) u) (weight x g i r 1) 0) * w j (ix3 0 d o)
      = gated x g i r (expertOf v hv j) fun d => w j (ix3 0 d o) := by
    rintro j u rfl
    unfold gated
    rw [gate_word _ _ _ (h _) (expertWord v hv j), gate_word _ _ _ (h _) (expertWord v hv j)]
  exact congrArg₂ (· + ·) (congrArg₂ (· + ·) (congrArg₂ (· + ·) (k 0 _ rfl) (k 1 _ rfl)) (k 2 _ rfl)) (k 3 _ rfl)

end Cert.Moe

end
-- ==== Proof.OutValue.lean ====
/-
  The kernel's result at one entry: every device's contribution there, summed round the ring.
-/
module

public import proofs.«01_k».proof.Proof.Launch
public import proofs.«01_k».proof.Proof.PartValue
public import Idealize.ShloMosaic.Lib.Layout

@[expose] public section

set_option maxRecDepth 65536

noncomputable section

namespace Cert.Moe

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The one block of a whole window lies over its array: index `y` of it is index `y` of the array. -/
theorem whole_emb (w : Pipeline.Window sig grid0) (h : w.index (0 : Fin 1) = fun _ => 0) (a : Fin w.shape.rank) (y : (w.xblock (grid0.coords (0 : Fin 1))).Idx) :
    ((w.rect (0 : Fin 1)).emb y a : Nat) = y a :=
  Pipeline.Window.rect_emb_val_of_index_zero w _ a (congrFun h a) y

/-- The staged tokens are the first argument. -/
theorem stgX_eq (c : Dev nD) : stgX m c = m ((c : Thread nD τ).loc main_arg0) :=
  funext fun y => congrArg (m ((c : Thread nD τ).loc main_arg0)) (funext fun a => Fin.ext (whole_emb win0_0 rfl a y))
/-- The staged router weights are the second argument. -/
theorem stgG_eq (c : Dev nD) : stgG m c = m ((c : Thread nD τ).loc main_arg1) :=
  funext fun y => congrArg (m ((c : Thread nD τ).loc main_arg1)) (funext fun a => Fin.ext (whole_emb win0_1 rfl a y))
/-- The staged indices are the third argument. -/
theorem stgI_eq (c : Dev nD) : stgI m c = m ((c : Thread nD τ).loc main_arg2) :=
  funext fun y => congrArg (m ((c : Thread nD τ).loc main_arg2)) (funext fun a => Fin.ext (whole_emb win0_2 rfl a y))
/-- The staged experts are the device's block of the fourth argument. -/
theorem stgE_eq (c : Dev nD) : stgE m c = m ((c : Thread nD τ).loc main_arg3) :=
  funext fun y => congrArg (m ((c : Thread nD τ).loc main_arg3)) (funext fun a => Fin.ext (whole_emb win0_3 rfl a y))

/-- Expert `j` of the four at an entry is the staged array's entry there. -/
theorem expert_apply (f : (cc0_stg3_0 : Ref sig .tc).ty.Contents (Elt Ideal)) (j : Fin 4) (d : Fin 256) (o : Fin 512) :
    expert f j (ix3 0 d o) = f (ix3 j d o) := by
  unfold expert
  refine congrArg f (funext fun a => Fin.ext ?_)
  fin_cases a
  · show j.val + 1 * 0 = j.val; omega
  · show 0 + 1 * d.val = d.val; omega
  · show 0 + 1 * o.val = o.val; omega

/-- The row of the whole that is row `t` of block `o`. -/
def rowOf (o : Dev nD) (t : Fin 32) : Fin 512 := ⟨32 * o.val + t.val, by have h : o.val < 16 := o.isLt; omega⟩

/-- Block `o` of a contribution holds the contribution's entries in that block's rows. -/
theorem chunk_apply (P : Vec Ideal S512x512 .bf16) (o : Dev nD) (t : Fin 32) (q : Fin 512) : chunk P o (ix2 t q) = P (ix2 (rowOf o t) q) := by
  unfold chunk
  refine congrArg P (funext fun a => Fin.ext ?_)
  fin_cases a
  · show 32 * o.val + 1 * t.val = 32 * o.val + t.val; omega
  · show 0 + 1 * q.val = q.val; omega

/-- The running sum at an entry is its start plus the listed devices' blocks there. -/
theorem sumFrom_apply (c : Dev nD) (ds : List (Fin 16)) : ∀ (v : FVec Ideal S32x512 .f32) (j : S32x512.Idx),
    sumFrom m c ds v j = (v j : EReal) + (ds.map fun d => (chunk (part m (dn d c)) c j : EReal)).sum := by
  induction ds with
  | nil => intro v j; exact (add_zero (v j : EReal)).symm
  | cons d ds ih =>
    intro v j
    refine (ih _ j).trans ?_
    rw [List.map_cons, List.sum_cons, ← add_assoc]
    rfl

/-- Going back round the ring by each distance reaches each device once. -/
theorem dn_bij : ∀ c : Dev nD, Function.Bijective fun d : Fin 16 => dn d c := by
  intro c
  refine (Finite.injective_iff_bijective).1 ?_
  revert c
  decide +kernel

/-- The sum over the device itself and the fifteen others round the ring is the sum over all devices. -/
theorem ring_sum (c : Dev nD) (f : Dev nD → EReal) : f c + (dists.map fun d => f (dn d c)).sum = ∑ b, f b := by
  have h0 : dn 0 c = c := by revert c; decide +kernel
  have h : ∑ d : Fin 16, f (dn d c) = ∑ b, f b := (dn_bij c).sum_comp f
  rw [← h, Fin.sum_univ_succ, h0]
  refine congrArg (f c + ·) ?_
  rw [← List.sum_ofFn]
  rfl

/-- The summed rows of a block: every device's contribution. -/
theorem total_apply (c : Dev nD) (t : Fin 32) (q : Fin 512) : total m c (ix2 t q) = ∑ b, (part m b (ix2 (rowOf c t) q) : EReal) := by
  unfold total
  rw [sumFrom_apply, ← ring_sum c fun b => (part m b (ix2 (rowOf c t) q) : EReal)]
  simp only [chunk_apply]
  exact congrArg (· + (dists.map fun d => (part m (dn d c) (ix2 (rowOf c t) q) : EReal)).sum) (chunk_apply (part m c) c t q)

/-- The rows sent, widened again, are the summed rows. -/
theorem sent_apply (c : Dev nD) (j : S32x512.Idx) : (extf .f32 (sent m c) bitsLt_bf16_f32 j : EReal) = total m c j := by
  unfold sent
  pointwise

/-- The entry every device's contributions sum to. -/
def gathered (y : S512x512.Idx) : EReal := ∑ b, (part m b y : EReal)

/-- Storing the gathered rows of block `o` changes exactly the entries of that block. -/
theorem rowsAt_apply (o : Dev nD) (v : FVec Ideal S32x512 .f32) (hv : ∀ t q, v (ix2 t q) = gathered m (ix2 (rowOf o t) q))
    (f : Vec Ideal S512x512 .f32) (y : S512x512.Idx) : rowsAt o v f y = if blkOf y = o then gathered m y else f y := by
  unfold rowsAt
  by_cases e : blkOf y = o
  · rw [if_pos e]
    have e' : (y 0).val / 32 = o.val := congrArg Fin.val e
    let t : Fin 32 := ⟨(y 0).val % 32, Nat.mod_lt _ (by norm_num)⟩
    have hy : (oM.access (rowsR ![32 * o.val, 0] (blk_inb o)) : View sig .tc _ _ _).emb (ix2 t (y 1)) = y := by
      funext a
      refine Fin.ext ?_
      fin_cases a
      · show 32 * o.val + 1 * ((y 0).val % 32) = (y 0).val; omega
      · show 0 + 1 * (y 1).val = (y 1).val; omega
    have hr : ix2 (rowOf o t) (y 1) = y := by
      funext a
      refine Fin.ext ?_
      fin_cases a
      · show 32 * o.val + (y 0).val % 32 = (y 0).val; omega
      · rfl
    refine (congrArg _ hy.symm).trans ((View.write_emb_of_mem _ _ (Finset.mem_univ _)).trans ((hv t (y 1)).trans (congrArg (gathered m) hr)))
  · rw [if_neg e]
    refine View.write_of_not_mem _ _ _ fun hy => e (Fin.ext ?_)
    have hs : y ∈ (oM.access (rowsR ![32 * o.val, 0] (blk_inb o)) : View sig .tc _ _ _).set := hy
    rw [show (oM.access (rowsR ![32 * o.val, 0] (blk_inb o)) : View sig .tc _ _ _).set = (rowsR ![32 * o.val, 0] (blk_inb o)).set from View.set_slice_whole _ _] at hs
    exact (mem_rowsR _ _).1 hs

/-- After storing the listed devices' rows an entry is gathered if it was or if its block is among them. -/
theorem putAll_apply (c : Dev nD) (ds : List (Fin 16)) : ∀ (f : Vec Ideal S512x512 .f32) (y : S512x512.Idx),
    (f y = gathered m y ∨ ∃ d ∈ ds, blkOf y = dn d c) → putAll m c ds f y = gathered m y := by
  have hs : ∀ o t q, (extf .f32 (sent m o) bitsLt_bf16_f32 : FVec Ideal S32x512 .f32) (ix2 t q) = gathered m (ix2 (rowOf o t) q) :=
    fun o t q => (sent_apply m o _).trans (total_apply m o t q)
  induction ds with
  | nil => rintro f y (h | ⟨d, hd, _⟩); exacts [h, absurd hd List.not_mem_nil]
  | cons d ds ih =>
    rintro f y h
    refine ih _ y ?_
    rw [rowsAt_apply m (dn d c) _ (hs _) f y]
    by_cases e : blkOf y = dn d c
    · exact Or.inl (if_pos e)
    · rw [if_neg e]
      rcases h with h | ⟨d', hd', h⟩
      · exact Or.inl h
      · rcases List.mem_cons.1 hd' with rfl | hd'
        · exact absurd h e
        · exact Or.inr ⟨d', hd', h⟩

/-- The kernel's result on every device: the summed contributions. -/
theorem outAt_apply (c : Dev nD) (y : S512x512.Idx) : outAt m c y = gathered m y := by
  unfold outAt
  refine putAll_apply m c dists _ y ?_
  rw [rowsAt_apply m c _ (fun t q => total_apply m c t q)]
  by_cases e : blkOf y = c
  · exact Or.inl (if_pos e)
  · exact Or.inr (ring_dn c _ e)

end Cert.Moe

end
-- ==== Proof.Gather.lean ====
/-
  The reference's two table reads at one entry: a pair of index words into the probabilities, and one index word into
  the experts' weights, each index inside its table.
-/
module

public import proofs.«01_k».proof.ReferenceIdeal
public import proofs.«01_k».proof.Proof.Gen.ReferenceIdeal
public import Idealize.ShloMosaic.Lib.Pointwise

@[expose] public section

set_option maxRecDepth 65536

noncomputable section

namespace Cert.Moe

open Cert.ReferenceIdeal Cert.ReferenceIdeal.Gen Idealize.ShloMosaic Idealize.ShloMosaic.TcCoe

/-- A word below `2 ^ 31`, read signed, is its number. -/
theorem toInt_toNat_small (w : BitVec 32) (h : w.toNat < 2 ^ 31) : w.toInt.toNat = w.toNat := by
  rw [BitVec.toInt_eq_toNat_cond, if_pos (by omega)]
  rfl

/-- Reading the probabilities at a row's own number and an index below 64 gives that row's probability of that expert. -/
theorem pair_read (p : Vec Ideal S512x64 .f32) (idx : IVec S512x2 32) (r : Fin 512)
    (h0 : (idx (ix2 r 0)).toNat = r.val) (h1 : (idx (ix2 r 1)).toNat < 64) :
    Host.gather gather_S512x64_S512x2_S512_n_01_n_n_01_1_11 p idx (ix1 r) = p (ix2 r ⟨(idx (ix2 r 1)).toNat, h1⟩) := by
  have hr := r.isLt
  have e : ∀ k : Fin 2, GatherDims.siIdx gather_S512x64_S512x2_S512_n_01_n_n_01_1_11 (ix1 r) k = ix2 r k := by
    intro k
    funext b
    fin_cases b <;> fin_cases k <;> rfl
  unfold Host.gather
  refine congrArg p (funext fun a => Fin.ext ?_)
  match a with
  | ⟨0, _⟩ =>
    show min (idx (GatherDims.siIdx gather_S512x64_S512x2_S512_n_01_n_n_01_1_11 (ix1 r) (0 : Fin 2))).toInt.toNat 511 + 0 + 0 = r.val
    rw [e, toInt_toNat_small _ (by omega), h0]
    omega
  | ⟨1, _⟩ =>
    show min (idx (GatherDims.siIdx gather_S512x64_S512x2_S512_n_01_n_n_01_1_11 (ix1 r) (1 : Fin 2))).toInt.toNat 63 + 0 + 0 = (idx (ix2 r 1)).toNat
    rw [e, toInt_toNat_small _ (by omega)]
    omega

/-- Reading the weights at an index below 64 gives that expert's matrix. -/
theorem expert_read (w : Vec Ideal S64x256x512 .f32) (idx : IVec S512x1 32) (r : Fin 512) (d : Fin 256) (o : Fin 512)
    (h : (idx (ix2 r 0)).toNat < 64) :
    Host.gather gather_S64x256x512_S512x1_S512x256x512_12_0_n_n_0_1_1256512 w idx (ix3 r d o) = w (ix3 ⟨(idx (ix2 r 0)).toNat, h⟩ d o) := by
  have e : GatherDims.siIdx gather_S64x256x512_S512x1_S512x256x512_12_0_n_n_0_1_1256512 (ix3 r d o) (0 : Fin 1) = ix2 r 0 := by
    funext b
    fin_cases b <;> rfl
  unfold Host.gather
  refine congrArg w (funext fun a => Fin.ext ?_)
  match a with
  | ⟨0, _⟩ =>
    show min (idx (GatherDims.siIdx gather_S64x256x512_S512x1_S512x256x512_12_0_n_n_0_1_1256512 (ix3 r d o) (0 : Fin 1))).toInt.toNat 63 + 0 + 0 = (idx (ix2 r 0)).toNat
    rw [e, toInt_toNat_small _ (by omega)]
    omega
  | ⟨1, _⟩ => show 0 + 0 + d.val = d.val; omega
  | ⟨2, _⟩ => show 0 + 0 + o.val = o.val; omega

end Cert.Moe

end
-- ==== Proof.RefValue.lean ====
/-
  The reference's result at one entry: the token's two chosen experts' products, each times its weight.
-/
module

public import proofs.«01_k».proof.Proof.Gather
public import proofs.«01_k».proof.Proof.Math
public import proofs.«01_k».proof.Proof.Gen.ReferenceIdeal.Run
public import Idealize.ShloMosaic.Lib.Pointwise
public import Idealize.ShloMosaic.Lib.Routing.OpsPair

@[expose] public section

set_option maxRecDepth 65536

noncomputable section

namespace Cert.Moe

open Cert.ReferenceIdeal Cert.ReferenceIdeal.Gen Idealize.ShloMosaic Idealize.ShloMosaic.TcCoe

/-- The reference's scores, as its operations compute them. -/
def refScores (x : FVec Ideal S512x256 .bf16) (g : FVec Ideal S256x64 .bf16) : FVec Ideal S512x64 .f32 :=
  Host.dotGeneral dot_S512x256_S256x64_S512x64_1_0_0_1_n_n none (extf .f32 x bitsLt_bf16_f32) (extf .f32 g bitsLt_bf16_f32)

/-- A column of one number per token, laid along all 64 experts. -/
def refSpread (v : FVec Ideal S512 .f32) : FVec Ideal S512x64 .f32 :=
  broadcastInDim S512x64 ![0, 1] bcast_S512x1_S512x64_0_1 (broadcastInDim S512x1 ![0] bcast_S512_S512x1_0 v)

/-- The reference's exponentials of the scores below each token's largest. -/
def refOdds (s : FVec Ideal S512x64 .f32) : FVec Ideal S512x64 .f32 :=
  Host.exp (subf s (refSpread (Host.reduce FloatOps.maximumf s (constant S_ .f32 0xFF800000#32) reducesTo_S512x64_S512_d1 h_S_)))

/-- The reference's probabilities, as its operations compute them. -/
def refProbs (x : FVec Ideal S512x256 .bf16) (g : FVec Ideal S256x64 .bf16) : FVec Ideal S512x64 .f32 :=
  Host.divf (refOdds (refScores x g))
    (refSpread (Host.reduceAdd (refOdds (refScores x g)) (constant S_ .f32 0x00000000#32) reducesTo_S512x64_S512_d1 h_S_))

/-- The reference's probabilities are the router's. -/
theorem refProbs_apply (x : FVec Ideal S512x256 .bf16) (g : FVec Ideal S256x64 .bf16) (r : Fin 512) (e : Fin 64) :
    refProbs x g (ix2 r e) = prob x g r e := by
  unfold refProbs refOdds refSpread refScores prob peak score
  pointwise

/-- An index column with jnp's wrap of a negative index by `n`. -/
def refWrap (n : BitVec 32) (v : IVec S512 32) : IVec S512 32 :=
  select (cmpi .slt v (broadcastInDim S512 ![] bcast_S_S512 (constantI S_ 32 0#32)))
    (addi v (broadcastInDim S512 ![] bcast_S_S512 (constantI S_ 32 n))) v

/-- A nonnegative index wraps to itself. -/
theorem refWrap_apply (n : BitVec 32) (v : IVec S512 32) (r : Fin 512) (h : (v (ix1 r)).toNat < 2 ^ 31) : refWrap n v (ix1 r) = v (ix1 r) :=
  Routing.wrap_of_lt _ _ h

/-- The reference's first column of routing indices. -/
def refCol0 (i : IVec S512x2 32) : IVec S512 32 := shapeCast _ (extractStridedSlice S512x1 ![0, 0] i slices_S512x2_S512x1_0_0) shapeCasts_S512x1_S512

/-- The reference's second column of routing indices. -/
def refCol1 (i : IVec S512x2 32) : IVec S512 32 := shapeCast _ (extractStridedSlice S512x1 ![0, 1] i slices_S512x2_S512x1_0_1) shapeCasts_S512x1_S512

/-- The first index column holds the first index of each row. -/
theorem refCol0_apply (i : IVec S512x2 32) (r : Fin 512) : refCol0 i (ix1 r) = i (ix2 r 0) := by
  unfold refCol0
  pointwise

/-- The second index column holds the second index of each row. -/
theorem refCol1_apply (i : IVec S512x2 32) (r : Fin 512) : refCol1 i (ix1 r) = i (ix2 r 1) := by
  unfold refCol1
  pointwise

/-- The probability each token's index names. -/
def refPick (p : FVec Ideal S512x64 .f32) (v : IVec S512 32) : FVec Ideal S512 .f32 :=
  Host.gather gather_S512x64_S512x2_S512_n_01_n_n_01_1_11 p
    (concatenate S512x2 1 [⟨S512x1, (broadcastInDim S512x1 ![0] bcast_S512_S512x1_0 (refWrap 512#32 (iotaInDim S512 32 0)))⟩,
      ⟨S512x1, (broadcastInDim S512x1 ![0] bcast_S512_S512x1_0 (refWrap 64#32 v))⟩] concatenates_S512x1_S512x1_S512x2_d1)

/-- The picked probability is that of the expert the index names. -/
theorem refPick_apply (p : FVec Ideal S512x64 .f32) (v : IVec S512 32) (r : Fin 512) (h : (v (ix1 r)).toNat < 64) :
    refPick p v (ix1 r) = p (ix2 r (named (v (ix1 r)))) := by
  have hr := r.isLt
  have e0 : (concatenate S512x2 1 [⟨S512x1, (broadcastInDim S512x1 ![0] bcast_S512_S512x1_0 (refWrap 512#32 (iotaInDim S512 32 0)))⟩,
      ⟨S512x1, (broadcastInDim S512x1 ![0] bcast_S512_S512x1_0 (refWrap 64#32 v))⟩] concatenates_S512x1_S512x1_S512x2_d1) (ix2 r 0) = BitVec.ofNat 32 r.val := by
    refine Eq.trans ?_ ((refWrap_apply 512#32 (iotaInDim S512 32 0) r ?_).trans rfl)
    · pointwise
    · show (BitVec.ofNat 32 r.val).toNat < _
      rw [BitVec.toNat_ofNat]
      omega
  have e1 : (concatenate S512x2 1 [⟨S512x1, (broadcastInDim S512x1 ![0] bcast_S512_S512x1_0 (refWrap 512#32 (iotaInDim S512 32 0)))⟩,
      ⟨S512x1, (broadcastInDim S512x1 ![0] bcast_S512_S512x1_0 (refWrap 64#32 v))⟩] concatenates_S512x1_S512x1_S512x2_d1) (ix2 r 1) = v (ix1 r) := by
    refine Eq.trans ?_ (refWrap_apply 64#32 v r (by omega))
    pointwise
  unfold refPick
  rw [pair_read _ _ r (by rw [e0, BitVec.toNat_ofNat]; omega) (by rw [e1]; exact h)]
  refine congrArg p (congrArg (ix2 r) (Fin.ext ?_))
  exact (congrArg BitVec.toNat e1).trans (Nat.mod_eq_of_lt h).symm

/-- Each token's product with the matrix of the expert its index names. -/
def refRows (x : FVec Ideal S512x256 .bf16) (w : FVec Ideal S64x256x512 .bf16) (v : IVec S512 32) : FVec Ideal S512x512 .f32 :=
  Host.dotGeneral dot_S512x256_S512x256x512_S512x512_1_1_n_2_0_0 none (extf .f32 x bitsLt_bf16_f32)
    (Host.gather gather_S64x256x512_S512x1_S512x256x512_12_0_n_n_0_1_1256512 (extf .f32 w bitsLt_bf16_f32)
      (broadcastInDim S512x1 ![0] bcast_S512_S512x1_0 (refWrap 64#32 v)))

/-- A row is the token's product with the matrix of the expert the index names. -/
theorem refRows_apply (x : FVec Ideal S512x256 .bf16) (w : FVec Ideal S64x256x512 .bf16) (v : IVec S512 32) (r o : Fin 512)
    (h : (v (ix1 r)).toNat < 64) : refRows x w v (ix2 r o) = ∑ d, x (ix2 r d) * w (ix3 (named (v (ix1 r))) d o) := by
  have e : broadcastInDim S512x1 ![0] bcast_S512_S512x1_0 (refWrap 64#32 v) (ix2 r 0) = v (ix1 r) := by
    refine Eq.trans ?_ (refWrap_apply 64#32 v r (by omega))
    pointwise
  unfold refRows
  pointwise
  refine Finset.sum_congr rfl fun d _ => congrArg (x (ix2 r d) * ·) ?_
  rw [expert_read _ _ r d o (by rw [e]; exact h)]
  refine congrArg w (congrArg (fun k => ix3 k d o) (Fin.ext ?_))
  exact (congrArg BitVec.toNat e).trans (Nat.mod_eq_of_lt h).symm

/-- One of the two terms of the reference's result: a chosen expert's products, times its probability over the sum of the chosen two. -/
def refTerm (a s : FVec Ideal S512 .f32) (y : FVec Ideal S512x512 .f32) : FVec Ideal S512x512 .f32 :=
  mulf (broadcastInDim S512x512 ![0, 1] bcast_S512x1_S512x512_0_1 (broadcastInDim S512x1 ![0] bcast_S512_S512x1_0 (Host.divf a s))) y

/-- One term of the result at an entry is the quotient of the row's two numbers times the product's entry. -/
theorem refTerm_apply (a s : FVec Ideal S512 .f32) (y : FVec Ideal S512x512 .f32) (r o : Fin 512) :
    refTerm a s y (ix2 r o) = Ideal.div (a (ix1 r)) (s (ix1 r)) * y (ix2 r o) := by
  unfold refTerm
  pointwise

/-- The reference's result of its four arguments. -/
def refOut (x : FVec Ideal S512x256 .bf16) (g : FVec Ideal S256x64 .bf16) (i : IVec S512x2 32) (w : FVec Ideal S64x256x512 .bf16) : FVec Ideal S512x512 .f32 :=
  addf (refTerm (refPick (refProbs x g) (refCol0 i)) (addf (refPick (refProbs x g) (refCol0 i)) (refPick (refProbs x g) (refCol1 i))) (refRows x w (refCol0 i)))
    (refTerm (refPick (refProbs x g) (refCol1 i)) (addf (refPick (refProbs x g) (refCol0 i)) (refPick (refProbs x g) (refCol1 i))) (refRows x w (refCol1 i)))

/-- The mixture at one entry: the token's two weighted products. -/
def mixture (x : FVec Ideal S512x256 .bf16) (g : FVec Ideal S256x64 .bf16) (i : IVec S512x2 32) (w : FVec Ideal S64x256x512 .bf16) (r o : Fin 512) : EReal :=
  weight x g i r 0 * (∑ d, x (ix2 r d) * w (ix3 (named (i (ix2 r 0))) d o))
    + weight x g i r 1 * ∑ d, x (ix2 r d) * w (ix3 (named (i (ix2 r 1))) d o)

/-- With every index among the 64 experts, the reference's result at an entry is the mixture. -/
theorem refOut_apply (x : FVec Ideal S512x256 .bf16) (g : FVec Ideal S256x64 .bf16) (i : IVec S512x2 32) (w : FVec Ideal S64x256x512 .bf16) (r o : Fin 512)
    (h : ∀ j, (i j).toNat < 64) : refOut x g i w (ix2 r o) = mixture x g i w r o := by
  have h0 : (refCol0 i (ix1 r)).toNat < 64 := by rw [refCol0_apply]; exact h _
  have h1 : (refCol1 i (ix1 r)).toNat < 64 := by rw [refCol1_apply]; exact h _
  show refTerm _ _ _ (ix2 r o) + refTerm _ _ _ (ix2 r o) = _
  rw [refTerm_apply, refTerm_apply, refRows_apply _ _ _ _ _ h0, refRows_apply _ _ _ _ _ h1]
  show Ideal.div _ (refPick _ _ (ix1 r) + refPick _ _ (ix1 r)) * _ + Ideal.div _ (refPick _ _ (ix1 r) + refPick _ _ (ix1 r)) * _ = _
  rw [refPick_apply _ _ _ h0, refPick_apply _ _ _ h1, refProbs_apply, refProbs_apply, refCol0_apply, refCol1_apply]
  rfl

/-- The reference's printed result is `refOut` of its arguments. -/
theorem res_eq (m : (ℓ : Loc nD τ sig) → Buf (Elt Ideal) ℓ) (c : Dev nD) :
    Cert.ReferenceIdeal.Value.res_main_v71 m c
      = refOut (m ((c.tc : Thread nD τ).loc main_arg0)) (m ((c.tc : Thread nD τ).loc main_arg1)) (m ((c.tc : Thread nD τ).loc main_arg2))
          (m ((c.tc : Thread nD τ).loc main_arg3)) := by
  unfold Cert.ReferenceIdeal.Value.res_main_v71 refOut refTerm refRows refPick refCol0 refCol1 refWrap refProbs refOdds refSpread refScores
  rfl

end Cert.Moe

end
-- ==== Proof.Algebraic.lean ====
/-
  The value claim: under the precondition every device's result is the mixture, and so is the reference's.
-/
module

public import proofs.«01_k».proof.Defs
public import proofs.«01_k».proof.Proof.Frames
public import proofs.«01_k».proof.Proof.OutValue
public import proofs.«01_k».proof.Proof.RefValue
public import Idealize.ShloMosaic.Lib.ReduceAll
public import Idealize.ShloMosaic.Lib.Layout
public import Idealize.ShloMosaic.Lib.Pipeline.ValueKit.Geometry

@[expose] public section

set_option maxRecDepth 65536

noncomputable section

namespace Cert.Moe

open Cert.KernelIdeal Cert.KernelIdeal.Gen Idealize.ShloMosaic Idealize.ShloMosaic.TcCoe Idealize.SL.Sem

/-- The shape relations of the precondition read at the kernel's arguments. -/
theorem pre_kernel : Cert.Pre_finite_and_routed_KernelIdeal.Facts where
  bcast_S_S512x256 := by decide
  reducesTo_S512x256_S_d0_1 := by decide
  h_S_ := by decide
  bcast_S_S256x64 := by decide
  reducesTo_S256x64_S_d0_1 := by decide
  bcast_S_S512x2 := by decide
  reducesTo_S512x2_S_d0_1 := by decide

/-- The shape relations of the precondition read at the reference's arguments. -/
theorem pre_reference : Cert.Pre_finite_and_routed_ReferenceIdeal.Facts where
  bcast_S_S512x256 := by decide
  reducesTo_S512x256_S_d0_1 := by decide
  h_S_ := by decide
  bcast_S_S256x64 := by decide
  reducesTo_S256x64_S_d0_1 := by decide
  bcast_S_S512x2 := by decide
  reducesTo_S512x2_S_d0_1 := by decide

/-- Two bits whose conjunction is 1 are both 1. -/
theorem and_one (a b : BitVec 1) (h : IntOp.andi a b = 1#1) : a = 1#1 ∧ b = 1#1 := by
  revert a b
  decide

/-- A magnitude compared below the pattern of positive infinity is that of a real number. -/
theorem real_of_cmp (z : EReal) (h : Ideal.cmp .olt (max z (-z)) (Ideal.ofBits .bf16 0x7F80#16) = 1#1) : IsReal z := by
  rw [ofBits_pos_inf] at h
  exact isReal_of_abs ((WordCmp.ofBool_decide_eq_one_iff _).1 h)

/-- A word compared at least 0 and below 64, both signed, is a number below 64. -/
theorem range_of_cmp (w : BitVec 32) (h : IntOp.cmpi .sge w 0#32 = 1#1) (h' : IntOp.cmpi .slt w 64#32 = 1#1) : w.toNat < 64 := by
  rw [WordCmp.cmpi_sge_eq, WordCmp.ofBool_decide_eq_one_iff] at h
  rw [WordCmp.cmpi_slt_eq, WordCmp.ofBool_decide_eq_one_iff] at h'
  have e0 : (0#32).toInt = 0 := by decide
  have e1 : (64#32).toInt = 64 := by decide
  rw [e0] at h
  rw [e1] at h'
  have := BitVec.toInt_eq_toNat_cond w
  have := w.isLt
  split at * <;> omega

/-- What the precondition says: the tokens and the router's weights are real, and every index is below 64. -/
theorem pre_reads [Cert.Pre_finite_and_routed_KernelIdeal.Facts] (x : FVec Ideal S512x256 .bf16) (g : FVec Ideal S256x64 .bf16) (i : IVec S512x2 32)
    (w : FVec Ideal S4x256x512 .bf16) (h : Cert.Pre_finite_and_routed_KernelIdeal.fn (F := Ideal) x g i w = fun _ => 1#1) :
    (∀ j, IsReal (x j)) ∧ (∀ j, IsReal (g j)) ∧ ∀ j, (i j).toNat < 64 := by
  have h0 := congrFun h fun a : Fin 0 => a.elim0
  dsimp only [Cert.Pre_finite_and_routed_KernelIdeal.fn] at h0
  obtain ⟨hxg, hi⟩ := and_one _ _ h0
  obtain ⟨hx, hg⟩ := and_one _ _ hxg
  have : Subsingleton Cert.Pre_finite_and_routed_KernelIdeal.S_.Idx := ⟨fun a b => funext fun k : Fin 0 => k.elim0⟩
  refine ⟨fun j => real_of_cmp _ (Host.reduce_andi_all _ _ _ _ _ hx j), fun j => real_of_cmp _ (Host.reduce_andi_all _ _ _ _ _ hg j), fun j => ?_⟩
  obtain ⟨h1, h2⟩ := and_one _ _ (Host.reduce_andi_all _ _ _ _ _ hi j)
  exact range_of_cmp _ h1 h2

/-- The word by which a device names itself is its number. -/
theorem myWord_toNat (c : Dev nD) : (myWord c).toNat = c.val := by
  revert c
  decide +kernel

/-- Expert `j` of device `b`, among all 64. -/
def expertAt (b : Dev nD) (j : Fin 4) : Fin 64 := ⟨4 * b.val + j.val, by have h : b.val < 16 := b.isLt; omega⟩

/-- Under real tokens and router weights and indices in range, the devices' contributions at an entry sum to the mixture. -/
theorem gathered_apply (m : (ℓ : Loc nD τ sig) → Buf (Elt Ideal) ℓ) (x : FVec Ideal S512x256 .bf16) (g : FVec Ideal S256x64 .bf16) (i : IVec S512x2 32)
    (w : FVec Ideal ⟨3, ![64, 256, 512]⟩ .bf16) (h0 : ∀ c : Dev nD, m ((c : Thread nD τ).loc main_arg0) = x)
    (h1 : ∀ c : Dev nD, m ((c : Thread nD τ).loc main_arg1) = g) (h2 : ∀ c : Dev nD, m ((c : Thread nD τ).loc main_arg2) = i)
    (h3 : ∀ c : Dev nD, m ((c : Thread nD τ).loc main_arg3) = Layout.block ⟨3, ![4, 256, 512]⟩ ⟨3, ![64, 256, 512]⟩ 0 16 c w)
    (hx : ∀ j, IsReal (x j)) (hg : ∀ j, IsReal (g j)) (hi : ∀ j, (i j).toNat < 64) (r o : Fin 512) :
    gathered m (ix2 r o) = mixture x g i w r o := by
  have hpart : ∀ b, (part m b (ix2 r o) : EReal) = ∑ j, gated x g i r (expertAt b j) fun d => w (ix3 (expertAt b j) d o) := by
    intro b
    have hb : (myWord b).toNat < 16 := by rw [myWord_toNat]; exact b.isLt
    have e : ∀ j, expertOf (myWord b) hb j = expertAt b j := fun j => Fin.ext (by
      show 4 * (myWord b).toNat + j.val = 4 * b.val + j.val
      rw [myWord_toNat])
    unfold part
    rw [stgX_eq, stgG_eq, stgI_eq, stgE_eq, h0, h1, h2, h3]
    refine (contrib_apply (myWord b) hb x g i (expert _) hi r o).trans ?_
    refine Finset.sum_congr rfl fun j _ => ?_
    rw [e]
    refine congrArg _ (funext fun d => (expert_apply _ j d o).trans (congrArg w (funext fun a => Fin.ext ?_)))
    fin_cases a
    · show b.val * 4 + j.val = 4 * b.val + j.val; omega
    · rfl
    · rfl
  unfold gathered
  rw [Finset.sum_congr rfl fun b _ => hpart b]
  refine (sum_blocks (fun e => gated x g i r e fun d => w (ix3 e d o)) expertAt fun _ _ => rfl).trans ?_
  have p0 := weight_pos x g i hx hg r 0
  have p1 := weight_pos x g i hx hg r 1
  exact experts_sum _ _ p0.nonneg p0.ne_top p1.nonneg p1.ne_top _ _ (fun d => x (ix2 r d)) fun e d => w (ix3 e d o)

/-- The result array after the run holds the body's result. -/
theorem final_out (m : (ℓ : Loc nD τ sig) → Buf (Elt Ideal) ℓ) (ρ : Dev nD → PrngReg) (c : Dev nD) : finalA m ρ c (4 : Fin 5) = outAt m c := by
  have hw : Pipeline.Window.WholeAt win0_4 t₀ := by decide +kernel
  refine (dats m ρ 0 c).arrAt_eq_of_after_last (4 : Fin 5) t₀ hw (outAt m c) fun j => ?_
  dsimp only [dats]
  generalize outAt m c = f
  rfl

/-- The kernel on 16 devices and the reference on one, from matching arguments, end with the same result on every device. -/
theorem algebraic : letI := Cert.KernelIdeal.Gen.facts; letI := Cert.ReferenceIdeal.Gen.facts; letI := pre_kernel
    Cert.algebraic_KernelIdeal_ReferenceIdeal_pre_finite_and_routed_KernelIdeal := by
  intro m ρ m' ρ' hpre hargs
  have hp := hpre 0
  rw [(hargs 0).1, (hargs 0).2.1, (hargs 0).2.2.1] at hp
  letI := pre_kernel
  obtain ⟨hx, hg, hi⟩ := pre_reads _ _ _ _ hp
  refine ⟨Cert.ReferenceIdeal.Value.res_main_v71 m' 0, (θ_run _ _ _).mono (fun r h c => ⟨?_, args_kept m ρ h.1 c⟩) (run_main m ρ),
    (θ_run _ _ _).mono (fun r h => h 0) (Cert.ReferenceIdeal.Value.run (F := Ideal) m' ρ')⟩
  refine (h.1 c (4 : Fin 5)).trans ((final_out m ρ c).trans ?_)
  rw [res_eq]
  funext y
  have hy : y = ix2 (y 0) (y 1) := by
    funext a
    fin_cases a <;> rfl
  rw [hy]
  refine (outAt_apply m c _).trans ((gathered_apply m _ _ _ _ (fun c => (hargs c).1) (fun c => (hargs c).2.1) (fun c => (hargs c).2.2.1)
    (fun c => (hargs c).2.2.2) hx hg hi _ _).trans (refOut_apply _ _ _ _ _ _ hi).symm)

end Cert.Moe

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- Everything claimed; the two frames under the precondition follow from those without it. -/
theorem claim : Cert.Claim := ⟨Cert.Kernel.Gen.facts, Cert.KernelIdeal.Gen.facts, Cert.ReferenceIdeal.Gen.facts,
  Cert.Moe.pre_kernel, Cert.Moe.pre_reference,
  Cert.Moe.frame_kernel, Cert.Moe.frame_ideal, fun m g _ => Cert.Moe.frame_ideal m g trivial,
  Cert.Moe.frame_reference, fun m g _ => Cert.Moe.frame_reference m g trivial, trivial, Cert.Moe.algebraic⟩

end Cert.Proof

end
